-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 16384, 2048]⟩ ⟨3, ![2, 16384, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.blockN ⟨2, ![16384, 1024]⟩ ⟨2, ![16384, 2048]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16384x2048 : Shape := ⟨3, ![1, 16384, 2048]⟩
abbrev S16384x1024 : Shape := ⟨2, ![16384, 1024]⟩
abbrev S4096x1024 : Shape := ⟨2, ![4096, 1024]⟩
abbrev S8 : Shape := ⟨1, ![8]⟩
abbrev S2 : Shape := ⟨1, ![2]⟩
abbrev S2x512x1024 : Shape := ⟨3, ![2, 512, 1024]⟩
abbrev S_ : Shape := ⟨0, ![]⟩
abbrev S1 : Shape := ⟨1, ![1]⟩
abbrev S512x1024 : Shape := ⟨2, ![512, 1024]⟩
abbrev S1x512x1024 : Shape := ⟨3, ![1, 512, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1x16384x2048, .f32⟩
  | .hbm, ⟨1, _⟩ => ⟨S16384x1024, .f32⟩
  | .hbm, ⟨2, _⟩ => ⟨S4096x1024, .f32⟩
  | .local _ .vmem, ⟨0, _⟩ => ⟨S2x512x1024, .f32⟩
  | .local _ .vmem, ⟨1, _⟩ => ⟨S2x512x1024, .f32⟩
  | .local _ .vmem, ⟨2, _⟩ => ⟨S2x512x1024, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  (ofTc nBuf bufTy 1 86 bufScoped semScoped dmaSemScoped tileCredit tileCredit_eq_zero tileCredit_pos).withBarriers [(0, 0)]

abbrev main_arg0 : Ref sig .tc := ⟨.hbm, 0, rfl⟩
abbrev main_v1_0 : Ref sig .tc := ⟨.hbm, 1, rfl⟩
abbrev main_v1_1 : Ref sig .tc := ⟨.hbm, 2, rfl⟩
abbrev cc0_scratch13 : Ref sig .tc := ⟨.vmem, 0, rfl⟩
abbrev cc0_scratch14 : Ref sig .tc := ⟨.vmem, 1, rfl⟩
abbrev cc0_scratch15 : Ref sig .tc := ⟨.vmem, 2, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_5 : BitVec 32 := 1#32
  let v15 : BitVec 32 := Scalar.subi c1_i32_5 v2
  let v16 : BitVec 32 := Scalar.select v14 v2 v15
  let c4_i32_18 : BitVec 32 := 4#32
  let v35 : BitVec 32 := Scalar.muli v16 c4_i32_18
  let v36 : BitVec 32 := Scalar.addi c0_i32_19 v35
  let c1_i32_6 : BitVec 32 := 1#32
  let v17 : BitVec 32 := Scalar.subi c1_i32_6 v5
  let v18 : BitVec 32 := Scalar.select v14 v17 v5
  let c2_i32_20 : BitVec 32 := 2#32
  let v37 : BitVec 32 := Scalar.muli v18 c2_i32_20
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v39 : BitVec 32 := Scalar.muli v8 c1_i32_21
  let v40 : BitVec 32 := Scalar.addi v38 v39
  v40.toNat
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_7 : BitVec 32 := 1#32
  let v19 : BitVec 32 := Scalar.subi c1_i32_7 v2
  let v20 : BitVec 32 := Scalar.select v14 v19 v2
  let c4_i32_23 : BitVec 32 := 4#32
  let v41 : BitVec 32 := Scalar.muli v20 c4_i32_23
  let v42 : BitVec 32 := Scalar.addi c0_i32_24 v41
  let c1_i32_8 : BitVec 32 := 1#32
  let v21 : BitVec 32 := Scalar.subi c1_i32_8 v5
  let v22 : BitVec 32 := Scalar.select v14 v5 v21
  let c2_i32_25 : BitVec 32 := 2#32
  let v43 : BitVec 32 := Scalar.muli v22 c2_i32_25
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v45 : BitVec 32 := Scalar.muli v8 c1_i32_26
  let v46 : BitVec 32 := Scalar.addi v44 v45
  v46.toNat
def k0_dev3 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v47 : BitVec 32 := Scalar.muli v2 c4_i32_28
  let v48 : BitVec 32 := Scalar.addi c0_i32_29 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v49 : BitVec 32 := Scalar.muli v5 c2_i32_30
  let v50 : BitVec 32 := Scalar.addi v48 v49
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_9 v8
  let c1_i32_31 : BitVec 32 := 1#32
  let v51 : BitVec 32 := Scalar.muli v23 c1_i32_31
  let v52 : BitVec 32 := Scalar.addi v50 v51
  v52.toNat
def k0_off1 (d0 : Dev nD) (c0_i32_33 : BitVec 32) : Fin 3 → Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_4 : BitVec 32 := 1#32
  let v11 : BitVec 32 := Scalar.subi c1_i32_4 v5
  let v12 : BitVec 32 := Scalar.select v10 v5 v11
  let v13 : BitVec 32 := Scalar.addi v9 v12
  let c4096_i32 : BitVec 32 := 4096#32
  let v24 : BitVec 32 := Scalar.muli v13 c4096_i32
  let v53 : BitVec 32 := Scalar.addi v24 c0_i32_33
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.subi c1_i32_15 v8
  let c1024_i32 : BitVec 32 := 1024#32
  let v32 : BitVec 32 := Scalar.muli v31 c1024_i32
  ![0, v53.toNat, v32.toNat]
def k0_dev4 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v54 : BitVec 32 := Scalar.muli v2 c4_i32_37
  let v55 : BitVec 32 := Scalar.addi c0_i32_38 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v56 : BitVec 32 := Scalar.muli v5 c2_i32_39
  let v57 : BitVec 32 := Scalar.addi v55 v56
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_9 v8
  let c1_i32_40 : BitVec 32 := 1#32
  let v58 : BitVec 32 := Scalar.muli v23 c1_i32_40
  let v59 : BitVec 32 := Scalar.addi v57 v58
  v59.toNat
def k0_dev5 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v68 : BitVec 32 := Scalar.muli v2 c4_i32_46
  let v69 : BitVec 32 := Scalar.addi c0_i32_47 v68
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_48 : BitVec 32 := 2#32
  let v70 : BitVec 32 := Scalar.muli v5 c2_i32_48
  let v71 : BitVec 32 := Scalar.addi v69 v70
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_9 v8
  let c1_i32_49 : BitVec 32 := 1#32
  let v72 : BitVec 32 := Scalar.muli v23 c1_i32_49
  let v73 : BitVec 32 := Scalar.addi v71 v72
  v73.toNat
def k0_dev6 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v82 : BitVec 32 := Scalar.muli v2 c4_i32_56
  let v83 : BitVec 32 := Scalar.addi c0_i32_57 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_58 : BitVec 32 := 2#32
  let v84 : BitVec 32 := Scalar.muli v5 c2_i32_58
  let v85 : BitVec 32 := Scalar.addi v83 v84
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_9 v8
  let c1_i32_59 : BitVec 32 := 1#32
  let v86 : BitVec 32 := Scalar.muli v23 c1_i32_59
  let v87 : BitVec 32 := Scalar.addi v85 v86
  v87.toNat
def k0_dev7 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v96 : BitVec 32 := Scalar.muli v2 c4_i32_65
  let v97 : BitVec 32 := Scalar.addi c0_i32_66 v96
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v98 : BitVec 32 := Scalar.muli v5 c2_i32_67
  let v99 : BitVec 32 := Scalar.addi v97 v98
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_9 v8
  let c1_i32_68 : BitVec 32 := 1#32
  let v100 : BitVec 32 := Scalar.muli v23 c1_i32_68
  let v101 : BitVec 32 := Scalar.addi v99 v100
  v101.toNat
def k0_dev8 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v110 : BitVec 32 := Scalar.muli v2 c4_i32_74
  let v111 : BitVec 32 := Scalar.addi c0_i32_75 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v112 : BitVec 32 := Scalar.muli v5 c2_i32_76
  let v113 : BitVec 32 := Scalar.addi v111 v112
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_9 v8
  let c1_i32_77 : BitVec 32 := 1#32
  let v114 : BitVec 32 := Scalar.muli v23 c1_i32_77
  let v115 : BitVec 32 := Scalar.addi v113 v114
  v115.toNat
def k0_dev9 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_82 : BitVec 32 := 4#32
  let v124 : BitVec 32 := Scalar.muli v2 c4_i32_82
  let v125 : BitVec 32 := Scalar.addi c0_i32_83 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_84 : BitVec 32 := 2#32
  let v126 : BitVec 32 := Scalar.muli v5 c2_i32_84
  let v127 : BitVec 32 := Scalar.addi v125 v126
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_9 v8
  let c1_i32_85 : BitVec 32 := 1#32
  let v128 : BitVec 32 := Scalar.muli v23 c1_i32_85
  let v129 : BitVec 32 := Scalar.addi v127 v128
  v129.toNat
def k0_dev10 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v138 : BitVec 32 := Scalar.muli v2 c4_i32_90
  let v139 : BitVec 32 := Scalar.addi c0_i32_91 v138
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_92 : BitVec 32 := 2#32
  let v140 : BitVec 32 := Scalar.muli v5 c2_i32_92
  let v141 : BitVec 32 := Scalar.addi v139 v140
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_9 v8
  let c1_i32_93 : BitVec 32 := 1#32
  let v142 : BitVec 32 := Scalar.muli v23 c1_i32_93
  let v143 : BitVec 32 := Scalar.addi v141 v142
  v143.toNat
def k0_dev11 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_98 : BitVec 32 := 4#32
  let v152 : BitVec 32 := Scalar.muli v2 c4_i32_98
  let v153 : BitVec 32 := Scalar.addi c0_i32_99 v152
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_100 : BitVec 32 := 2#32
  let v154 : BitVec 32 := Scalar.muli v5 c2_i32_100
  let v155 : BitVec 32 := Scalar.addi v153 v154
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_9 v8
  let c1_i32_101 : BitVec 32 := 1#32
  let v156 : BitVec 32 := Scalar.muli v23 c1_i32_101
  let v157 : BitVec 32 := Scalar.addi v155 v156
  v157.toNat
def k0_off2 (d0 : Dev nD) (c0_i32_114 : BitVec 32) : Fin 3 → Nat :=
  let c0_i32_115 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_4 : BitVec 32 := 1#32
  let v11 : BitVec 32 := Scalar.subi c1_i32_4 v5
  let v12 : BitVec 32 := Scalar.select v10 v5 v11
  let v13 : BitVec 32 := Scalar.addi v9 v12
  let c4096_i32 : BitVec 32 := 4096#32
  let v24 : BitVec 32 := Scalar.muli v13 c4096_i32
  let v177 : BitVec 32 := Scalar.addi v24 c0_i32_114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_16 : BitVec 32 := 1024#32
  let v33 : BitVec 32 := Scalar.muli v8 c1024_i32_16
  ![0, v177.toNat, v33.toNat]
def k0_off3 (d0 : Dev nD) (c0_i32_146 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_4 : BitVec 32 := 1#32
  let v11 : BitVec 32 := Scalar.subi c1_i32_4 v5
  let v12 : BitVec 32 := Scalar.select v10 v5 v11
  let v13 : BitVec 32 := Scalar.addi v9 v12
  let c4096_i32 : BitVec 32 := 4096#32
  let v24 : BitVec 32 := Scalar.muli v13 c4096_i32
  let v209 : BitVec 32 := Scalar.addi v24 c0_i32_146
  let c0_i32_149 : BitVec 32 := 0#32
  ![v209.toNat, 0]
def k0_dev12 (d0 : Dev nD) : Nat :=
  let c0_i32_157 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_5 : BitVec 32 := 1#32
  let v15 : BitVec 32 := Scalar.subi c1_i32_5 v2
  let v16 : BitVec 32 := Scalar.select v14 v2 v15
  let c4_i32_156 : BitVec 32 := 4#32
  let v216 : BitVec 32 := Scalar.muli v16 c4_i32_156
  let v217 : BitVec 32 := Scalar.addi c0_i32_157 v216
  let c1_i32_6 : BitVec 32 := 1#32
  let v17 : BitVec 32 := Scalar.subi c1_i32_6 v5
  let v18 : BitVec 32 := Scalar.select v14 v17 v5
  let c2_i32_158 : BitVec 32 := 2#32
  let v218 : BitVec 32 := Scalar.muli v18 c2_i32_158
  let v219 : BitVec 32 := Scalar.addi v217 v218
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_159 : BitVec 32 := 1#32
  let v220 : BitVec 32 := Scalar.muli v8 c1_i32_159
  let v221 : BitVec 32 := Scalar.addi v219 v220
  v221.toNat
def k0_dev13 (d0 : Dev nD) : Nat :=
  let c0_i32_168 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_7 : BitVec 32 := 1#32
  let v19 : BitVec 32 := Scalar.subi c1_i32_7 v2
  let v20 : BitVec 32 := Scalar.select v14 v19 v2
  let c4_i32_167 : BitVec 32 := 4#32
  let v230 : BitVec 32 := Scalar.muli v20 c4_i32_167
  let v231 : BitVec 32 := Scalar.addi c0_i32_168 v230
  let c1_i32_8 : BitVec 32 := 1#32
  let v21 : BitVec 32 := Scalar.subi c1_i32_8 v5
  let v22 : BitVec 32 := Scalar.select v14 v5 v21
  let c2_i32_169 : BitVec 32 := 2#32
  let v232 : BitVec 32 := Scalar.muli v22 c2_i32_169
  let v233 : BitVec 32 := Scalar.addi v231 v232
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_170 : BitVec 32 := 1#32
  let v234 : BitVec 32 := Scalar.muli v8 c1_i32_170
  let v235 : BitVec 32 := Scalar.addi v233 v234
  v235.toNat
def k0_off4 (d0 : Dev nD) (c3_i32 : BitVec 32) (c0_i32_175 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_4 : BitVec 32 := 1#32
  let v11 : BitVec 32 := Scalar.subi c1_i32_4 v5
  let v12 : BitVec 32 := Scalar.select v10 v5 v11
  let v13 : BitVec 32 := Scalar.addi v9 v12
  let v25 : BitVec 32 := Scalar.addi v13 c3_i32
  let c4_i32_10 : BitVec 32 := 4#32
  let v26 : BitVec 32 := Scalar.remsi v25 c4_i32_10
  let c4096_i32_174 : BitVec 32 := 4096#32
  let v243 : BitVec 32 := Scalar.muli v26 c4096_i32_174
  let v244 : BitVec 32 := Scalar.addi v243 c0_i32_175
  let c0_i32_183 : BitVec 32 := 0#32
  ![v244.toNat, 0]
def k0_off5 (d0 : Dev nD) (c3_i32 : BitVec 32) (c0_i32_187 : BitVec 32) (c0_i32_188 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let c0_i32 : BitVec 32 := 0#32
  let v10 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_4 : BitVec 32 := 1#32
  let v11 : BitVec 32 := Scalar.subi c1_i32_4 v5
  let v12 : BitVec 32 := Scalar.select v10 v5 v11
  let v13 : BitVec 32 := Scalar.addi v9 v12
  let v25 : BitVec 32 := Scalar.addi v13 c3_i32
  let c4_i32_10 : BitVec 32 := 4#32
  let v26 : BitVec 32 := Scalar.remsi v25 c4_i32_10
  let c4096_i32_186 : BitVec 32 := 4096#32
  let v256 : BitVec 32 := Scalar.muli v26 c4096_i32_186
  let v257 : BitVec 32 := Scalar.addi v256 c0_i32_187
  let v258 : BitVec 32 := Scalar.addi v257 c0_i32_188
  let c0_i32_195 : BitVec 32 := 0#32
  ![v258.toNat, 0]
def k0_off5_at (r : Fin 32) : BitVec 32 × BitVec 32 × BitVec 32 :=
  if r.val < 16 then
    if r.val < 8 then
      if r.val < 4 then
        if r.val < 2 then
          if r.val < 1 then
            (3#32, 0#32, 0#32)
          else
            (1#32, 0#32, 256#32)
        else
          if r.val < 3 then
            (3#32, 512#32, 0#32)
          else
            (1#32, 512#32, 256#32)
      else
        if r.val < 6 then
          if r.val < 5 then
            (3#32, 1024#32, 0#32)
          else
            (1#32, 1024#32, 256#32)
        else
          if r.val < 7 then
            (3#32, 1536#32, 0#32)
          else
            (1#32, 1536#32, 256#32)
    else
      if r.val < 12 then
        if r.val < 10 then
          if r.val < 9 then
            (3#32, 2048#32, 0#32)
          else
            (1#32, 2048#32, 256#32)
        else
          if r.val < 11 then
            (3#32, 2560#32, 0#32)
          else
            (1#32, 2560#32, 256#32)
      else
        if r.val < 14 then
          if r.val < 13 then
            (3#32, 3072#32, 0#32)
          else
            (1#32, 3072#32, 256#32)
        else
          if r.val < 15 then
            (3#32, 3584#32, 0#32)
          else
            (1#32, 3584#32, 256#32)
  else
    if r.val < 24 then
      if r.val < 20 then
        if r.val < 18 then
          if r.val < 17 then
            (2#32, 0#32, 0#32)
          else
            (2#32, 0#32, 256#32)
        else
          if r.val < 19 then
            (2#32, 512#32, 0#32)
          else
            (2#32, 512#32, 256#32)
      else
        if r.val < 22 then
          if r.val < 21 then
            (2#32, 1024#32, 0#32)
          else
            (2#32, 1024#32, 256#32)
        else
          if r.val < 23 then
            (2#32, 1536#32, 0#32)
          else
            (2#32, 1536#32, 256#32)
    else
      if r.val < 28 then
        if r.val < 26 then
          if r.val < 25 then
            (2#32, 2048#32, 0#32)
          else
            (2#32, 2048#32, 256#32)
        else
          if r.val < 27 then
            (2#32, 2560#32, 0#32)
          else
            (2#32, 2560#32, 256#32)
      else
        if r.val < 30 then
          if r.val < 29 then
            (2#32, 3072#32, 0#32)
          else
            (2#32, 3072#32, 256#32)
        else
          if r.val < 31 then
            (2#32, 3584#32, 0#32)
          else
            (2#32, 3584#32, 256#32)
def k0_dev14 (d0 : Dev nD) : Nat :=
  let c0_i32_192 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_5 : BitVec 32 := 1#32
  let v15 : BitVec 32 := Scalar.subi c1_i32_5 v2
  let v16 : BitVec 32 := Scalar.select v14 v2 v15
  let c4_i32_191 : BitVec 32 := 4#32
  let v259 : BitVec 32 := Scalar.muli v16 c4_i32_191
  let v260 : BitVec 32 := Scalar.addi c0_i32_192 v259
  let c1_i32_6 : BitVec 32 := 1#32
  let v17 : BitVec 32 := Scalar.subi c1_i32_6 v5
  let v18 : BitVec 32 := Scalar.select v14 v17 v5
  let c2_i32_193 : BitVec 32 := 2#32
  let v261 : BitVec 32 := Scalar.muli v18 c2_i32_193
  let v262 : BitVec 32 := Scalar.addi v260 v261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_194 : BitVec 32 := 1#32
  let v263 : BitVec 32 := Scalar.muli v8 c1_i32_194
  let v264 : BitVec 32 := Scalar.addi v262 v263
  v264.toNat
def k0_dev15 (d0 : Dev nD) : Nat :=
  let c0_i32_214 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_7 : BitVec 32 := 1#32
  let v19 : BitVec 32 := Scalar.subi c1_i32_7 v2
  let v20 : BitVec 32 := Scalar.select v14 v19 v2
  let c4_i32_213 : BitVec 32 := 4#32
  let v287 : BitVec 32 := Scalar.muli v20 c4_i32_213
  let v288 : BitVec 32 := Scalar.addi c0_i32_214 v287
  let c1_i32_8 : BitVec 32 := 1#32
  let v21 : BitVec 32 := Scalar.subi c1_i32_8 v5
  let v22 : BitVec 32 := Scalar.select v14 v5 v21
  let c2_i32_215 : BitVec 32 := 2#32
  let v289 : BitVec 32 := Scalar.muli v22 c2_i32_215
  let v290 : BitVec 32 := Scalar.addi v288 v289
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_216 : BitVec 32 := 1#32
  let v291 : BitVec 32 := Scalar.muli v8 c1_i32_216
  let v292 : BitVec 32 := Scalar.addi v290 v291
  v292.toNat
def k0_dev16 (d0 : Dev nD) : Nat :=
  let c0_i32_272 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_5 : BitVec 32 := 1#32
  let v15 : BitVec 32 := Scalar.subi c1_i32_5 v2
  let v16 : BitVec 32 := Scalar.select v14 v2 v15
  let c4_i32_271 : BitVec 32 := 4#32
  let v350 : BitVec 32 := Scalar.muli v16 c4_i32_271
  let v351 : BitVec 32 := Scalar.addi c0_i32_272 v350
  let c1_i32_6 : BitVec 32 := 1#32
  let v17 : BitVec 32 := Scalar.subi c1_i32_6 v5
  let v18 : BitVec 32 := Scalar.select v14 v17 v5
  let c2_i32_273 : BitVec 32 := 2#32
  let v352 : BitVec 32 := Scalar.muli v18 c2_i32_273
  let v353 : BitVec 32 := Scalar.addi v351 v352
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_274 : BitVec 32 := 1#32
  let v354 : BitVec 32 := Scalar.muli v8 c1_i32_274
  let v355 : BitVec 32 := Scalar.addi v353 v354
  v355.toNat
def k0_dev17 (d0 : Dev nD) : Nat :=
  let c0_i32_283 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_7 : BitVec 32 := 1#32
  let v19 : BitVec 32 := Scalar.subi c1_i32_7 v2
  let v20 : BitVec 32 := Scalar.select v14 v19 v2
  let c4_i32_282 : BitVec 32 := 4#32
  let v364 : BitVec 32 := Scalar.muli v20 c4_i32_282
  let v365 : BitVec 32 := Scalar.addi c0_i32_283 v364
  let c1_i32_8 : BitVec 32 := 1#32
  let v21 : BitVec 32 := Scalar.subi c1_i32_8 v5
  let v22 : BitVec 32 := Scalar.select v14 v5 v21
  let c2_i32_284 : BitVec 32 := 2#32
  let v366 : BitVec 32 := Scalar.muli v22 c2_i32_284
  let v367 : BitVec 32 := Scalar.addi v365 v366
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_285 : BitVec 32 := 1#32
  let v368 : BitVec 32 := Scalar.muli v8 c1_i32_285
  let v369 : BitVec 32 := Scalar.addi v367 v368
  v369.toNat
def k0_dev18 (d0 : Dev nD) : Nat :=
  let c0_i32_307 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_5 : BitVec 32 := 1#32
  let v15 : BitVec 32 := Scalar.subi c1_i32_5 v2
  let v16 : BitVec 32 := Scalar.select v14 v2 v15
  let c4_i32_306 : BitVec 32 := 4#32
  let v393 : BitVec 32 := Scalar.muli v16 c4_i32_306
  let v394 : BitVec 32 := Scalar.addi c0_i32_307 v393
  let c1_i32_6 : BitVec 32 := 1#32
  let v17 : BitVec 32 := Scalar.subi c1_i32_6 v5
  let v18 : BitVec 32 := Scalar.select v14 v17 v5
  let c2_i32_308 : BitVec 32 := 2#32
  let v395 : BitVec 32 := Scalar.muli v18 c2_i32_308
  let v396 : BitVec 32 := Scalar.addi v394 v395
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_309 : BitVec 32 := 1#32
  let v397 : BitVec 32 := Scalar.muli v8 c1_i32_309
  let v398 : BitVec 32 := Scalar.addi v396 v397
  v398.toNat
def k0_dev19 (d0 : Dev nD) : Nat :=
  let c0_i32_330 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_7 : BitVec 32 := 1#32
  let v19 : BitVec 32 := Scalar.subi c1_i32_7 v2
  let v20 : BitVec 32 := Scalar.select v14 v19 v2
  let c4_i32_329 : BitVec 32 := 4#32
  let v421 : BitVec 32 := Scalar.muli v20 c4_i32_329
  let v422 : BitVec 32 := Scalar.addi c0_i32_330 v421
  let c1_i32_8 : BitVec 32 := 1#32
  let v21 : BitVec 32 := Scalar.subi c1_i32_8 v5
  let v22 : BitVec 32 := Scalar.select v14 v5 v21
  let c2_i32_331 : BitVec 32 := 2#32
  let v423 : BitVec 32 := Scalar.muli v22 c2_i32_331
  let v424 : BitVec 32 := Scalar.addi v422 v423
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_332 : BitVec 32 := 1#32
  let v425 : BitVec 32 := Scalar.muli v8 c1_i32_332
  let v426 : BitVec 32 := Scalar.addi v424 v425
  v426.toNat
def k0_dev20 (d0 : Dev nD) : Nat :=
  let c0_i32_411 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_5 : BitVec 32 := 1#32
  let v15 : BitVec 32 := Scalar.subi c1_i32_5 v2
  let v16 : BitVec 32 := Scalar.select v14 v2 v15
  let c4_i32_410 : BitVec 32 := 4#32
  let v502 : BitVec 32 := Scalar.muli v16 c4_i32_410
  let v503 : BitVec 32 := Scalar.addi c0_i32_411 v502
  let c1_i32_6 : BitVec 32 := 1#32
  let v17 : BitVec 32 := Scalar.subi c1_i32_6 v5
  let v18 : BitVec 32 := Scalar.select v14 v17 v5
  let c2_i32_412 : BitVec 32 := 2#32
  let v504 : BitVec 32 := Scalar.muli v18 c2_i32_412
  let v505 : BitVec 32 := Scalar.addi v503 v504
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_413 : BitVec 32 := 1#32
  let v506 : BitVec 32 := Scalar.muli v8 c1_i32_413
  let v507 : BitVec 32 := Scalar.addi v505 v506
  v507.toNat
def k0_dev21 (d0 : Dev nD) : Nat :=
  let c0_i32_422 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_7 : BitVec 32 := 1#32
  let v19 : BitVec 32 := Scalar.subi c1_i32_7 v2
  let v20 : BitVec 32 := Scalar.select v14 v19 v2
  let c4_i32_421 : BitVec 32 := 4#32
  let v516 : BitVec 32 := Scalar.muli v20 c4_i32_421
  let v517 : BitVec 32 := Scalar.addi c0_i32_422 v516
  let c1_i32_8 : BitVec 32 := 1#32
  let v21 : BitVec 32 := Scalar.subi c1_i32_8 v5
  let v22 : BitVec 32 := Scalar.select v14 v5 v21
  let c2_i32_423 : BitVec 32 := 2#32
  let v518 : BitVec 32 := Scalar.muli v22 c2_i32_423
  let v519 : BitVec 32 := Scalar.addi v517 v518
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_424 : BitVec 32 := 1#32
  let v520 : BitVec 32 := Scalar.muli v8 c1_i32_424
  let v521 : BitVec 32 := Scalar.addi v519 v520
  v521.toNat
def k0_dev22 (d0 : Dev nD) : Nat :=
  let c0_i32_446 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_5 : BitVec 32 := 1#32
  let v15 : BitVec 32 := Scalar.subi c1_i32_5 v2
  let v16 : BitVec 32 := Scalar.select v14 v2 v15
  let c4_i32_445 : BitVec 32 := 4#32
  let v545 : BitVec 32 := Scalar.muli v16 c4_i32_445
  let v546 : BitVec 32 := Scalar.addi c0_i32_446 v545
  let c1_i32_6 : BitVec 32 := 1#32
  let v17 : BitVec 32 := Scalar.subi c1_i32_6 v5
  let v18 : BitVec 32 := Scalar.select v14 v17 v5
  let c2_i32_447 : BitVec 32 := 2#32
  let v547 : BitVec 32 := Scalar.muli v18 c2_i32_447
  let v548 : BitVec 32 := Scalar.addi v546 v547
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_448 : BitVec 32 := 1#32
  let v549 : BitVec 32 := Scalar.muli v8 c1_i32_448
  let v550 : BitVec 32 := Scalar.addi v548 v549
  v550.toNat
def k0_dev23 (d0 : Dev nD) : Nat :=
  let c0_i32_469 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_7 : BitVec 32 := 1#32
  let v19 : BitVec 32 := Scalar.subi c1_i32_7 v2
  let v20 : BitVec 32 := Scalar.select v14 v19 v2
  let c4_i32_468 : BitVec 32 := 4#32
  let v573 : BitVec 32 := Scalar.muli v20 c4_i32_468
  let v574 : BitVec 32 := Scalar.addi c0_i32_469 v573
  let c1_i32_8 : BitVec 32 := 1#32
  let v21 : BitVec 32 := Scalar.subi c1_i32_8 v5
  let v22 : BitVec 32 := Scalar.select v14 v5 v21
  let c2_i32_470 : BitVec 32 := 2#32
  let v575 : BitVec 32 := Scalar.muli v22 c2_i32_470
  let v576 : BitVec 32 := Scalar.addi v574 v575
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_471 : BitVec 32 := 1#32
  let v577 : BitVec 32 := Scalar.muli v8 c1_i32_471
  let v578 : BitVec 32 := Scalar.addi v576 v577
  v578.toNat
def k0_dev24 (d0 : Dev nD) : Nat :=
  let c0_i32_550 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_5 : BitVec 32 := 1#32
  let v15 : BitVec 32 := Scalar.subi c1_i32_5 v2
  let v16 : BitVec 32 := Scalar.select v14 v2 v15
  let c4_i32_549 : BitVec 32 := 4#32
  let v654 : BitVec 32 := Scalar.muli v16 c4_i32_549
  let v655 : BitVec 32 := Scalar.addi c0_i32_550 v654
  let c1_i32_6 : BitVec 32 := 1#32
  let v17 : BitVec 32 := Scalar.subi c1_i32_6 v5
  let v18 : BitVec 32 := Scalar.select v14 v17 v5
  let c2_i32_551 : BitVec 32 := 2#32
  let v656 : BitVec 32 := Scalar.muli v18 c2_i32_551
  let v657 : BitVec 32 := Scalar.addi v655 v656
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_552 : BitVec 32 := 1#32
  let v658 : BitVec 32 := Scalar.muli v8 c1_i32_552
  let v659 : BitVec 32 := Scalar.addi v657 v658
  v659.toNat
def k0_dev25 (d0 : Dev nD) : Nat :=
  let c0_i32_561 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_7 : BitVec 32 := 1#32
  let v19 : BitVec 32 := Scalar.subi c1_i32_7 v2
  let v20 : BitVec 32 := Scalar.select v14 v19 v2
  let c4_i32_560 : BitVec 32 := 4#32
  let v668 : BitVec 32 := Scalar.muli v20 c4_i32_560
  let v669 : BitVec 32 := Scalar.addi c0_i32_561 v668
  let c1_i32_8 : BitVec 32 := 1#32
  let v21 : BitVec 32 := Scalar.subi c1_i32_8 v5
  let v22 : BitVec 32 := Scalar.select v14 v5 v21
  let c2_i32_562 : BitVec 32 := 2#32
  let v670 : BitVec 32 := Scalar.muli v22 c2_i32_562
  let v671 : BitVec 32 := Scalar.addi v669 v670
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_563 : BitVec 32 := 1#32
  let v672 : BitVec 32 := Scalar.muli v8 c1_i32_563
  let v673 : BitVec 32 := Scalar.addi v671 v672
  v673.toNat
def k0_dev26 (d0 : Dev nD) : Nat :=
  let c0_i32_585 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_5 : BitVec 32 := 1#32
  let v15 : BitVec 32 := Scalar.subi c1_i32_5 v2
  let v16 : BitVec 32 := Scalar.select v14 v2 v15
  let c4_i32_584 : BitVec 32 := 4#32
  let v697 : BitVec 32 := Scalar.muli v16 c4_i32_584
  let v698 : BitVec 32 := Scalar.addi c0_i32_585 v697
  let c1_i32_6 : BitVec 32 := 1#32
  let v17 : BitVec 32 := Scalar.subi c1_i32_6 v5
  let v18 : BitVec 32 := Scalar.select v14 v17 v5
  let c2_i32_586 : BitVec 32 := 2#32
  let v699 : BitVec 32 := Scalar.muli v18 c2_i32_586
  let v700 : BitVec 32 := Scalar.addi v698 v699
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_587 : BitVec 32 := 1#32
  let v701 : BitVec 32 := Scalar.muli v8 c1_i32_587
  let v702 : BitVec 32 := Scalar.addi v700 v701
  v702.toNat
def k0_dev27 (d0 : Dev nD) : Nat :=
  let c0_i32_608 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_7 : BitVec 32 := 1#32
  let v19 : BitVec 32 := Scalar.subi c1_i32_7 v2
  let v20 : BitVec 32 := Scalar.select v14 v19 v2
  let c4_i32_607 : BitVec 32 := 4#32
  let v725 : BitVec 32 := Scalar.muli v20 c4_i32_607
  let v726 : BitVec 32 := Scalar.addi c0_i32_608 v725
  let c1_i32_8 : BitVec 32 := 1#32
  let v21 : BitVec 32 := Scalar.subi c1_i32_8 v5
  let v22 : BitVec 32 := Scalar.select v14 v5 v21
  let c2_i32_609 : BitVec 32 := 2#32
  let v727 : BitVec 32 := Scalar.muli v22 c2_i32_609
  let v728 : BitVec 32 := Scalar.addi v726 v727
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_610 : BitVec 32 := 1#32
  let v729 : BitVec 32 := Scalar.muli v8 c1_i32_610
  let v730 : BitVec 32 := Scalar.addi v728 v729
  v730.toNat
def k0_dev28 (d0 : Dev nD) : Nat :=
  let c0_i32_689 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_5 : BitVec 32 := 1#32
  let v15 : BitVec 32 := Scalar.subi c1_i32_5 v2
  let v16 : BitVec 32 := Scalar.select v14 v2 v15
  let c4_i32_688 : BitVec 32 := 4#32
  let v806 : BitVec 32 := Scalar.muli v16 c4_i32_688
  let v807 : BitVec 32 := Scalar.addi c0_i32_689 v806
  let c1_i32_6 : BitVec 32 := 1#32
  let v17 : BitVec 32 := Scalar.subi c1_i32_6 v5
  let v18 : BitVec 32 := Scalar.select v14 v17 v5
  let c2_i32_690 : BitVec 32 := 2#32
  let v808 : BitVec 32 := Scalar.muli v18 c2_i32_690
  let v809 : BitVec 32 := Scalar.addi v807 v808
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_691 : BitVec 32 := 1#32
  let v810 : BitVec 32 := Scalar.muli v8 c1_i32_691
  let v811 : BitVec 32 := Scalar.addi v809 v810
  v811.toNat
def k0_dev29 (d0 : Dev nD) : Nat :=
  let c0_i32_700 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_7 : BitVec 32 := 1#32
  let v19 : BitVec 32 := Scalar.subi c1_i32_7 v2
  let v20 : BitVec 32 := Scalar.select v14 v19 v2
  let c4_i32_699 : BitVec 32 := 4#32
  let v820 : BitVec 32 := Scalar.muli v20 c4_i32_699
  let v821 : BitVec 32 := Scalar.addi c0_i32_700 v820
  let c1_i32_8 : BitVec 32 := 1#32
  let v21 : BitVec 32 := Scalar.subi c1_i32_8 v5
  let v22 : BitVec 32 := Scalar.select v14 v5 v21
  let c2_i32_701 : BitVec 32 := 2#32
  let v822 : BitVec 32 := Scalar.muli v22 c2_i32_701
  let v823 : BitVec 32 := Scalar.addi v821 v822
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_702 : BitVec 32 := 1#32
  let v824 : BitVec 32 := Scalar.muli v8 c1_i32_702
  let v825 : BitVec 32 := Scalar.addi v823 v824
  v825.toNat
def k0_dev30 (d0 : Dev nD) : Nat :=
  let c0_i32_724 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_5 : BitVec 32 := 1#32
  let v15 : BitVec 32 := Scalar.subi c1_i32_5 v2
  let v16 : BitVec 32 := Scalar.select v14 v2 v15
  let c4_i32_723 : BitVec 32 := 4#32
  let v849 : BitVec 32 := Scalar.muli v16 c4_i32_723
  let v850 : BitVec 32 := Scalar.addi c0_i32_724 v849
  let c1_i32_6 : BitVec 32 := 1#32
  let v17 : BitVec 32 := Scalar.subi c1_i32_6 v5
  let v18 : BitVec 32 := Scalar.select v14 v17 v5
  let c2_i32_725 : BitVec 32 := 2#32
  let v851 : BitVec 32 := Scalar.muli v18 c2_i32_725
  let v852 : BitVec 32 := Scalar.addi v850 v851
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_726 : BitVec 32 := 1#32
  let v853 : BitVec 32 := Scalar.muli v8 c1_i32_726
  let v854 : BitVec 32 := Scalar.addi v852 v853
  v854.toNat
def k0_dev31 (d0 : Dev nD) : Nat :=
  let c0_i32_747 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_7 : BitVec 32 := 1#32
  let v19 : BitVec 32 := Scalar.subi c1_i32_7 v2
  let v20 : BitVec 32 := Scalar.select v14 v19 v2
  let c4_i32_746 : BitVec 32 := 4#32
  let v877 : BitVec 32 := Scalar.muli v20 c4_i32_746
  let v878 : BitVec 32 := Scalar.addi c0_i32_747 v877
  let c1_i32_8 : BitVec 32 := 1#32
  let v21 : BitVec 32 := Scalar.subi c1_i32_8 v5
  let v22 : BitVec 32 := Scalar.select v14 v5 v21
  let c2_i32_748 : BitVec 32 := 2#32
  let v879 : BitVec 32 := Scalar.muli v22 c2_i32_748
  let v880 : BitVec 32 := Scalar.addi v878 v879
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_749 : BitVec 32 := 1#32
  let v881 : BitVec 32 := Scalar.muli v8 c1_i32_749
  let v882 : BitVec 32 := Scalar.addi v880 v881
  v882.toNat
def k0_dev32 (d0 : Dev nD) : Nat :=
  let c0_i32_828 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_5 : BitVec 32 := 1#32
  let v15 : BitVec 32 := Scalar.subi c1_i32_5 v2
  let v16 : BitVec 32 := Scalar.select v14 v2 v15
  let c4_i32_827 : BitVec 32 := 4#32
  let v958 : BitVec 32 := Scalar.muli v16 c4_i32_827
  let v959 : BitVec 32 := Scalar.addi c0_i32_828 v958
  let c1_i32_6 : BitVec 32 := 1#32
  let v17 : BitVec 32 := Scalar.subi c1_i32_6 v5
  let v18 : BitVec 32 := Scalar.select v14 v17 v5
  let c2_i32_829 : BitVec 32 := 2#32
  let v960 : BitVec 32 := Scalar.muli v18 c2_i32_829
  let v961 : BitVec 32 := Scalar.addi v959 v960
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_830 : BitVec 32 := 1#32
  let v962 : BitVec 32 := Scalar.muli v8 c1_i32_830
  let v963 : BitVec 32 := Scalar.addi v961 v962
  v963.toNat
def k0_dev33 (d0 : Dev nD) : Nat :=
  let c0_i32_839 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_7 : BitVec 32 := 1#32
  let v19 : BitVec 32 := Scalar.subi c1_i32_7 v2
  let v20 : BitVec 32 := Scalar.select v14 v19 v2
  let c4_i32_838 : BitVec 32 := 4#32
  let v972 : BitVec 32 := Scalar.muli v20 c4_i32_838
  let v973 : BitVec 32 := Scalar.addi c0_i32_839 v972
  let c1_i32_8 : BitVec 32 := 1#32
  let v21 : BitVec 32 := Scalar.subi c1_i32_8 v5
  let v22 : BitVec 32 := Scalar.select v14 v5 v21
  let c2_i32_840 : BitVec 32 := 2#32
  let v974 : BitVec 32 := Scalar.muli v22 c2_i32_840
  let v975 : BitVec 32 := Scalar.addi v973 v974
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_841 : BitVec 32 := 1#32
  let v976 : BitVec 32 := Scalar.muli v8 c1_i32_841
  let v977 : BitVec 32 := Scalar.addi v975 v976
  v977.toNat
def k0_dev34 (d0 : Dev nD) : Nat :=
  let c0_i32_863 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_5 : BitVec 32 := 1#32
  let v15 : BitVec 32 := Scalar.subi c1_i32_5 v2
  let v16 : BitVec 32 := Scalar.select v14 v2 v15
  let c4_i32_862 : BitVec 32 := 4#32
  let v1001 : BitVec 32 := Scalar.muli v16 c4_i32_862
  let v1002 : BitVec 32 := Scalar.addi c0_i32_863 v1001
  let c1_i32_6 : BitVec 32 := 1#32
  let v17 : BitVec 32 := Scalar.subi c1_i32_6 v5
  let v18 : BitVec 32 := Scalar.select v14 v17 v5
  let c2_i32_864 : BitVec 32 := 2#32
  let v1003 : BitVec 32 := Scalar.muli v18 c2_i32_864
  let v1004 : BitVec 32 := Scalar.addi v1002 v1003
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_865 : BitVec 32 := 1#32
  let v1005 : BitVec 32 := Scalar.muli v8 c1_i32_865
  let v1006 : BitVec 32 := Scalar.addi v1004 v1005
  v1006.toNat
def k0_dev35 (d0 : Dev nD) : Nat :=
  let c0_i32_886 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_7 : BitVec 32 := 1#32
  let v19 : BitVec 32 := Scalar.subi c1_i32_7 v2
  let v20 : BitVec 32 := Scalar.select v14 v19 v2
  let c4_i32_885 : BitVec 32 := 4#32
  let v1029 : BitVec 32 := Scalar.muli v20 c4_i32_885
  let v1030 : BitVec 32 := Scalar.addi c0_i32_886 v1029
  let c1_i32_8 : BitVec 32 := 1#32
  let v21 : BitVec 32 := Scalar.subi c1_i32_8 v5
  let v22 : BitVec 32 := Scalar.select v14 v5 v21
  let c2_i32_887 : BitVec 32 := 2#32
  let v1031 : BitVec 32 := Scalar.muli v22 c2_i32_887
  let v1032 : BitVec 32 := Scalar.addi v1030 v1031
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_888 : BitVec 32 := 1#32
  let v1033 : BitVec 32 := Scalar.muli v8 c1_i32_888
  let v1034 : BitVec 32 := Scalar.addi v1032 v1033
  v1034.toNat
def k0_dev36 (d0 : Dev nD) : Nat :=
  let c0_i32_967 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_5 : BitVec 32 := 1#32
  let v15 : BitVec 32 := Scalar.subi c1_i32_5 v2
  let v16 : BitVec 32 := Scalar.select v14 v2 v15
  let c4_i32_966 : BitVec 32 := 4#32
  let v1110 : BitVec 32 := Scalar.muli v16 c4_i32_966
  let v1111 : BitVec 32 := Scalar.addi c0_i32_967 v1110
  let c1_i32_6 : BitVec 32 := 1#32
  let v17 : BitVec 32 := Scalar.subi c1_i32_6 v5
  let v18 : BitVec 32 := Scalar.select v14 v17 v5
  let c2_i32_968 : BitVec 32 := 2#32
  let v1112 : BitVec 32 := Scalar.muli v18 c2_i32_968
  let v1113 : BitVec 32 := Scalar.addi v1111 v1112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_969 : BitVec 32 := 1#32
  let v1114 : BitVec 32 := Scalar.muli v8 c1_i32_969
  let v1115 : BitVec 32 := Scalar.addi v1113 v1114
  v1115.toNat
def k0_dev37 (d0 : Dev nD) : Nat :=
  let c0_i32_978 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_7 : BitVec 32 := 1#32
  let v19 : BitVec 32 := Scalar.subi c1_i32_7 v2
  let v20 : BitVec 32 := Scalar.select v14 v19 v2
  let c4_i32_977 : BitVec 32 := 4#32
  let v1124 : BitVec 32 := Scalar.muli v20 c4_i32_977
  let v1125 : BitVec 32 := Scalar.addi c0_i32_978 v1124
  let c1_i32_8 : BitVec 32 := 1#32
  let v21 : BitVec 32 := Scalar.subi c1_i32_8 v5
  let v22 : BitVec 32 := Scalar.select v14 v5 v21
  let c2_i32_979 : BitVec 32 := 2#32
  let v1126 : BitVec 32 := Scalar.muli v22 c2_i32_979
  let v1127 : BitVec 32 := Scalar.addi v1125 v1126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_980 : BitVec 32 := 1#32
  let v1128 : BitVec 32 := Scalar.muli v8 c1_i32_980
  let v1129 : BitVec 32 := Scalar.addi v1127 v1128
  v1129.toNat
def k0_dev38 (d0 : Dev nD) : Nat :=
  let c0_i32_1002 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_5 : BitVec 32 := 1#32
  let v15 : BitVec 32 := Scalar.subi c1_i32_5 v2
  let v16 : BitVec 32 := Scalar.select v14 v2 v15
  let c4_i32_1001 : BitVec 32 := 4#32
  let v1153 : BitVec 32 := Scalar.muli v16 c4_i32_1001
  let v1154 : BitVec 32 := Scalar.addi c0_i32_1002 v1153
  let c1_i32_6 : BitVec 32 := 1#32
  let v17 : BitVec 32 := Scalar.subi c1_i32_6 v5
  let v18 : BitVec 32 := Scalar.select v14 v17 v5
  let c2_i32_1003 : BitVec 32 := 2#32
  let v1155 : BitVec 32 := Scalar.muli v18 c2_i32_1003
  let v1156 : BitVec 32 := Scalar.addi v1154 v1155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1004 : BitVec 32 := 1#32
  let v1157 : BitVec 32 := Scalar.muli v8 c1_i32_1004
  let v1158 : BitVec 32 := Scalar.addi v1156 v1157
  v1158.toNat
def k0_dev39 (d0 : Dev nD) : Nat :=
  let c0_i32_1025 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_7 : BitVec 32 := 1#32
  let v19 : BitVec 32 := Scalar.subi c1_i32_7 v2
  let v20 : BitVec 32 := Scalar.select v14 v19 v2
  let c4_i32_1024 : BitVec 32 := 4#32
  let v1181 : BitVec 32 := Scalar.muli v20 c4_i32_1024
  let v1182 : BitVec 32 := Scalar.addi c0_i32_1025 v1181
  let c1_i32_8 : BitVec 32 := 1#32
  let v21 : BitVec 32 := Scalar.subi c1_i32_8 v5
  let v22 : BitVec 32 := Scalar.select v14 v5 v21
  let c2_i32_1026 : BitVec 32 := 2#32
  let v1183 : BitVec 32 := Scalar.muli v22 c2_i32_1026
  let v1184 : BitVec 32 := Scalar.addi v1182 v1183
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1027 : BitVec 32 := 1#32
  let v1185 : BitVec 32 := Scalar.muli v8 c1_i32_1027
  let v1186 : BitVec 32 := Scalar.addi v1184 v1185
  v1186.toNat
def k0_dev40 (d0 : Dev nD) : Nat :=
  let c0_i32_1106 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_5 : BitVec 32 := 1#32
  let v15 : BitVec 32 := Scalar.subi c1_i32_5 v2
  let v16 : BitVec 32 := Scalar.select v14 v2 v15
  let c4_i32_1105 : BitVec 32 := 4#32
  let v1262 : BitVec 32 := Scalar.muli v16 c4_i32_1105
  let v1263 : BitVec 32 := Scalar.addi c0_i32_1106 v1262
  let c1_i32_6 : BitVec 32 := 1#32
  let v17 : BitVec 32 := Scalar.subi c1_i32_6 v5
  let v18 : BitVec 32 := Scalar.select v14 v17 v5
  let c2_i32_1107 : BitVec 32 := 2#32
  let v1264 : BitVec 32 := Scalar.muli v18 c2_i32_1107
  let v1265 : BitVec 32 := Scalar.addi v1263 v1264
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1108 : BitVec 32 := 1#32
  let v1266 : BitVec 32 := Scalar.muli v8 c1_i32_1108
  let v1267 : BitVec 32 := Scalar.addi v1265 v1266
  v1267.toNat
def k0_dev41 (d0 : Dev nD) : Nat :=
  let c0_i32_1117 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_7 : BitVec 32 := 1#32
  let v19 : BitVec 32 := Scalar.subi c1_i32_7 v2
  let v20 : BitVec 32 := Scalar.select v14 v19 v2
  let c4_i32_1116 : BitVec 32 := 4#32
  let v1276 : BitVec 32 := Scalar.muli v20 c4_i32_1116
  let v1277 : BitVec 32 := Scalar.addi c0_i32_1117 v1276
  let c1_i32_8 : BitVec 32 := 1#32
  let v21 : BitVec 32 := Scalar.subi c1_i32_8 v5
  let v22 : BitVec 32 := Scalar.select v14 v5 v21
  let c2_i32_1118 : BitVec 32 := 2#32
  let v1278 : BitVec 32 := Scalar.muli v22 c2_i32_1118
  let v1279 : BitVec 32 := Scalar.addi v1277 v1278
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1119 : BitVec 32 := 1#32
  let v1280 : BitVec 32 := Scalar.muli v8 c1_i32_1119
  let v1281 : BitVec 32 := Scalar.addi v1279 v1280
  v1281.toNat
def k0_dev42 (d0 : Dev nD) : Nat :=
  let c0_i32_1141 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_5 : BitVec 32 := 1#32
  let v15 : BitVec 32 := Scalar.subi c1_i32_5 v2
  let v16 : BitVec 32 := Scalar.select v14 v2 v15
  let c4_i32_1140 : BitVec 32 := 4#32
  let v1305 : BitVec 32 := Scalar.muli v16 c4_i32_1140
  let v1306 : BitVec 32 := Scalar.addi c0_i32_1141 v1305
  let c1_i32_6 : BitVec 32 := 1#32
  let v17 : BitVec 32 := Scalar.subi c1_i32_6 v5
  let v18 : BitVec 32 := Scalar.select v14 v17 v5
  let c2_i32_1142 : BitVec 32 := 2#32
  let v1307 : BitVec 32 := Scalar.muli v18 c2_i32_1142
  let v1308 : BitVec 32 := Scalar.addi v1306 v1307
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1143 : BitVec 32 := 1#32
  let v1309 : BitVec 32 := Scalar.muli v8 c1_i32_1143
  let v1310 : BitVec 32 := Scalar.addi v1308 v1309
  v1310.toNat
def k0_dev43 (d0 : Dev nD) : Nat :=
  let c0_i32_1164 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 1 := Scalar.cmpi .eq v2 v5
  let c1_i32_7 : BitVec 32 := 1#32
  let v19 : BitVec 32 := Scalar.subi c1_i32_7 v2
  let v20 : BitVec 32 := Scalar.select v14 v19 v2
  let c4_i32_1163 : BitVec 32 := 4#32
  let v1333 : BitVec 32 := Scalar.muli v20 c4_i32_1163
  let v1334 : BitVec 32 := Scalar.addi c0_i32_1164 v1333
  let c1_i32_8 : BitVec 32 := 1#32
  let v21 : BitVec 32 := Scalar.subi c1_i32_8 v5
  let v22 : BitVec 32 := Scalar.select v14 v5 v21
  let c2_i32_1165 : BitVec 32 := 2#32
  let v1335 : BitVec 32 := Scalar.muli v22 c2_i32_1165
  let v1336 : BitVec 32 := Scalar.addi v1334 v1335
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1166 : BitVec 32 := 1#32
  let v1337 : BitVec 32 := Scalar.muli v8 c1_i32_1166
  let v1338 : BitVec 32 := Scalar.addi v1336 v1337
  v1338.toNat
-- ==== ReferenceIdeal.lean ====
abbrev S2x16384x2048 : Shape := ⟨3, ![2, 16384, 2048]⟩
abbrev S_ : Shape := ⟨0, ![]⟩
abbrev S16384x2048 : Shape := ⟨2, ![16384, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S_, .f32⟩
  | .hbm, ⟨2, _⟩ => ⟨S16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Prog.lean ====
/-
The kernel's body as a composition of phases, each written once at a symbolic chunk number `c` of the eight chunks and
a symbolic device `d`: the entry handshake, the transfers along z, the work on one chunk, the reuse of a slot, and the
closing waits. `body_eq` says that the printed body on the launch's buffers is this composition.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions

@[expose] public section

noncomputable section

namespace Cert.AllReduce

open Cert.KernelIdeal Cert.KernelIdeal.Gen
open Idealize.ShloMosaic Idealize.ShloMosaic.TcCoe
open Idealize.SL Idealize.SL.Sem

variable {F : FTy → Type} [FloatOps F]

/-! ## The buffers -/

abbrev xM : Memref sig .tc .hbm S1x16384x2048 .f32 := Memref.whole main_arg0
abbrev oM : Memref sig .tc .hbm S16384x1024 .f32 := Memref.whole main_v1_0
abbrev rM : Memref sig .tc .hbm S4096x1024 .f32 := Memref.whole main_v1_1
abbrev aM : Memref sig .tc .vmem S2x512x1024 .f32 := Memref.whole cc0_scratch13
abbrev bM : Memref sig .tc .vmem S2x512x1024 .f32 := Memref.whole cc0_scratch14
abbrev sM : Memref sig .tc .vmem S2x512x1024 .f32 := Memref.whole cc0_scratch15

/-- A number as the 32-bit word the program computes with. -/
abbrev word (n : ℕ) : BitVec 32 := BitVec.ofNat 32 n

/-- The slot of chunk `c`. -/
def slot (c : Fin 8) : Fin 2 := ⟨c.val % 2, Nat.mod_lt _ (by decide)⟩

/-! ## The pieces of the buffers a transfer moves -/

/-- The block of the argument that chunk `c` sends along z. -/
def xSend (d : Dev nD) (c : Fin 8) : Memref sig .tc .hbm S512x1024 .f32 :=
  (xM.slice (Rect.unit (s := S1x16384x2048) (k0_off1 d (word (512 * c.val))) S1x512x1024.size (k0_off1_inb d c)) (fun _ => rfl)).squeeze
    S512x1024 squeezes_S1x512x1024_S512x1024
/-- The block of the argument that chunk `c` keeps. -/
def xKeep (d : Dev nD) (c : Fin 8) : Memref sig .tc .hbm S512x1024 .f32 :=
  (xM.slice (Rect.unit (s := S1x16384x2048) (k0_off2 d (word (512 * c.val))) S1x512x1024.size (k0_off2_inb d c)) (fun _ => rfl)).squeeze
    S512x1024 squeezes_S1x512x1024_S512x1024

theorem zRow_inb : ∀ (c : Fin 8) (a : Fin 2), (![512 * c.val, 0] : Fin 2 → ℕ) a + S512x1024.size a ≤ S4096x1024.size a := by decide +kernel
/-- Chunk `c` of the buffer that receives along z. -/
def zRow (c : Fin 8) : Memref sig .tc .hbm S512x1024 .f32 :=
  rM.slice (Rect.unit (s := S4096x1024) ![512 * c.val, 0] S512x1024.size (zRow_inb c)) (fun _ => rfl)

/-- Chunk `c` of the device's own quarter of the result. -/
def oOwn (d : Dev nD) (c : Fin 8) : Memref sig .tc .hbm S512x1024 .f32 :=
  oM.slice (Rect.unit (s := S16384x1024) (k0_off3 d (word (512 * c.val))) S512x1024.size (k0_off3_inb d c)) (fun _ => rfl)
/-- Chunk `c` of the quarter of the result that the right (`e = 0`) or the left (`e = 1`) neighbour computes. -/
def oNbr (d : Dev nD) (e : Fin 2) (c : Fin 8) : Memref sig .tc .hbm S512x1024 .f32 :=
  oM.slice (Rect.unit (s := S16384x1024) (k0_off4 d (word (1 + 2 * e.val)) (word (512 * c.val))) S512x1024.size (k0_off4_inb d e c)) (fun _ => rfl)

theorem oHalf_inb : ∀ (d : Dev nD) (j : Fin 3) (c : Fin 8) (h : Fin 2) (a : Fin 2),
    (k0_off5 d (word (1 + j.val)) (word (512 * c.val)) (word (256 * h.val))) a + S256x1024.size a ≤ S16384x1024.size a := by decide +kernel
/-- Half `h` of chunk `c` of the quarter of the result that is `j + 1` places further round the ring. -/
def oHalf (d : Dev nD) (j : Fin 3) (c : Fin 8) (h : Fin 2) : Memref sig .tc .hbm S256x1024 .f32 :=
  oM.slice (Rect.unit (s := S16384x1024) (k0_off5 d (word (1 + j.val)) (word (512 * c.val)) (word (256 * h.val))) S256x1024.size (oHalf_inb d j c h)) (fun _ => rfl)

theorem slot_inb : ∀ (s : Fin 2) (a : Fin 3), (![s.val, 0, 0] : Fin 3 → ℕ) a + S1x512x1024.size a ≤ S2x512x1024.size a := by decide +kernel
/-- The rectangle of slot `s` of a two-slot buffer. -/
abbrev slotR (s : Fin 2) : Rect S2x512x1024 := Rect.unit (s := S2x512x1024) ![s.val, 0, 0] S1x512x1024.size (slot_inb s)
/-- Slot `s` of a two-slot buffer. -/
def slotV (M : Memref sig .tc .vmem S2x512x1024 .f32) (s : Fin 2) : Memref sig .tc .vmem S512x1024 .f32 :=
  (M.slice (slotR s) (fun _ => rfl)).squeeze S512x1024 squeezes_S1x512x1024_S512x1024

/-! ## The semaphores -/

/-- The semaphore of collective 0's barrier. -/
abbrev barS : Sem sig := (SemArray.scalar (sig.barrier 0 rfl) : Sems sig S_).sem
/-- Entry `c` of the `k`-th of the ten arrays of eight DMA semaphores. -/
def qs (k : Fin 10) (c : Fin 8) : DmaSem sig := ⟨8 * k.val + c.val, by show _ < 86; omega⟩
/-- Entry `s` of the `j`-th of the three arrays of two DMA semaphores. -/
def ls (j : Fin 3) (s : Fin 2) : DmaSem sig := ⟨80 + 2 * j.val + s.val, by show _ < 86; omega⟩

/-! ## The neighbours, as the program computes them -/

abbrev devCw (d : Dev nD) : Dev nD := ⟨k0_dev1 d, k0_dev1_lt d⟩
abbrev devCcw (d : Dev nD) : Dev nD := ⟨k0_dev2 d, k0_dev2_lt d⟩
abbrev devZ (d : Dev nD) : Dev nD := ⟨k0_dev3 d, k0_dev3_lt d⟩

/-! ## The phases -/

abbrev Code (F : FTy → Type) : Type 1 := Prog (TpuEff nD τ sig (Elt F) Λ₀ .tc) PUnit

/-- The handshake: one unit to each of three neighbours, then the wait for three. -/
def handshake (d : Dev nD) (K : Code F) : Code F :=
  .op (.semSignal (Dev.tc (devCw d)) barS 1) fun _ => .op (.semSignal (Dev.tc (devCcw d)) barS 1) fun _ =>
  .op (.semSignal (Dev.tc (devZ d)) barS 1) fun _ => .op (.semWait barS 3) fun _ => K

/-- Chunk `c` sent along z. -/
def zSend (d : Dev nD) (c : Fin 8) (K : Code F) : Code F :=
  .op (.enqueueDma (xSend d c) (.remote (Dev.tc (devZ d)) (zRow c) (.dma (qs 0 c))) (.dma (qs 1 c))
    ((View.wordExact_bits rfl).reshape _ _) (View.wordExact_bits rfl) ⟨⟨rfl, Or.inl rfl⟩, trivial⟩) fun _ => K

/-- A slot's three transfers of chunk `c` awaited, so that the slot can be written anew. -/
def reuse (d : Dev nD) (c : Fin 8) (K : Code F) : Code F :=
  .op (.waitDma2 (ls 2 (slot c)) (slotV sM (slot c)) (oOwn d c) ((View.wordExact_bits rfl).reshape _ _) (View.wordExact_bits rfl)) fun _ =>
  .op (.waitDma2 (qs 2 c) (oOwn d c) (slotV sM (slot c)) (View.wordExact_bits rfl) ((View.wordExact_bits rfl).reshape _ _)) fun _ =>
  .op (.waitDma2 (qs 3 c) (oOwn d c) (slotV sM (slot c)) (View.wordExact_bits rfl) ((View.wordExact_bits rfl).reshape _ _)) fun _ => K

/-- The two summands of chunk `c` brought into its slots: the partner's block awaited, both copied in. -/
def fetch (d : Dev nD) (c : Fin 8) (K : Code F) : Code F :=
  .op (.waitDma2 (qs 1 c) (xSend d c) (zRow c) ((View.wordExact_bits rfl).reshape _ _) (View.wordExact_bits rfl)) fun _ =>
  .op (.enqueueDma (xKeep d c) (.here (slotV aM (slot c))) (.dma (ls 0 (slot c))) ((View.wordExact_bits rfl).reshape _ _)
    ((View.wordExact_bits rfl).reshape _ _) ⟨Or.inl rfl, trivial⟩) fun _ =>
  .op (.enqueueDma (zRow c) (.here (slotV bM (slot c))) (.dma (ls 1 (slot c))) (View.wordExact_bits rfl)
    ((View.wordExact_bits rfl).reshape _ _) ⟨Or.inl rfl, trivial⟩) fun _ =>
  .op (.waitDma2 (ls 0 (slot c)) (xKeep d c) (slotV aM (slot c)) ((View.wordExact_bits rfl).reshape _ _) ((View.wordExact_bits rfl).reshape _ _)) fun _ =>
  .op (.waitDma2 (ls 1 (slot c)) (zRow c) (slotV bM (slot c)) (View.wordExact_bits rfl) ((View.wordExact_bits rfl).reshape _ _)) fun _ => K

/-- The two summands of chunk `c` loaded, and their sum stored. -/
def addUp (c : Fin 8) (K : Code F) : Code F :=
  .op (.load aM (slotR (slot c)).toLoadRect (View.loadsAt_vmem h_S1x512x1024)) fun u =>
  .op (.load bM (slotR (slot c)).toLoadRect (View.loadsAt_vmem h_S1x512x1024)) fun v =>
  .op (.load sM (slotR (slot c)).toLoadRect (View.loadsAt_vmem h_S1x512x1024)) fun _ =>
  .op (.store sM (slotR (slot c)) (k0_pay1 u v) Finset.univ (View.stores_vmem_bits_univ h_S1x512x1024 rfl) (.inl rfl)) fun _ => K

/-- The sum of chunk `c` sent out: into the device's own result and both ring neighbours'. -/
def spread (d : Dev nD) (c : Fin 8) (K : Code F) : Code F :=
  .op (.enqueueDma (slotV sM (slot c)) (.here (oOwn d c)) (.dma (ls 2 (slot c))) ((View.wordExact_bits rfl).reshape _ _)
    (View.wordExact_bits rfl) ⟨Or.inl rfl, trivial⟩) fun _ =>
  .op (.enqueueDma (slotV sM (slot c)) (.remote (Dev.tc (devCw d)) (oOwn d c) (.dma (qs 2 c))) (.dma (qs 4 c))
    ((View.wordExact_bits rfl).reshape _ _) (View.wordExact_bits rfl) ⟨⟨rfl, Or.inl rfl⟩, trivial⟩) fun _ =>
  .op (.enqueueDma (slotV sM (slot c)) (.remote (Dev.tc (devCcw d)) (oOwn d c) (.dma (qs 3 c))) (.dma (qs 5 c))
    ((View.wordExact_bits rfl).reshape _ _) (View.wordExact_bits rfl) ⟨⟨rfl, Or.inl rfl⟩, trivial⟩) fun _ => K

/-- Both ring neighbours' chunk `c` awaited, and a half of each passed on. -/
def relay (d : Dev nD) (c : Fin 8) (K : Code F) : Code F :=
  .op (.waitDma2 (qs 4 c) (slotV sM (slot c)) (oNbr d 1 c) ((View.wordExact_bits rfl).reshape _ _) (View.wordExact_bits rfl)) fun _ =>
  .op (.enqueueDma (oHalf d 2 c 0) (.remote (Dev.tc (devCw d)) (oHalf d 2 c 0) (.dma (qs 6 c))) (.dma (qs 8 c))
    (View.wordExact_bits rfl) (View.wordExact_bits rfl) ⟨⟨rfl, Or.inl rfl⟩, trivial⟩) fun _ =>
  .op (.waitDma2 (qs 5 c) (slotV sM (slot c)) (oNbr d 0 c) ((View.wordExact_bits rfl).reshape _ _) (View.wordExact_bits rfl)) fun _ =>
  .op (.enqueueDma (oHalf d 0 c 1) (.remote (Dev.tc (devCcw d)) (oHalf d 0 c 1) (.dma (qs 7 c))) (.dma (qs 9 c))
    (View.wordExact_bits rfl) (View.wordExact_bits rfl) ⟨⟨rfl, Or.inl rfl⟩, trivial⟩) fun _ => K

/-- The work on chunk `c` once its slot is free. -/
def chunk (d : Dev nD) (c : Fin 8) (K : Code F) : Code F := fetch d c <| addUp c <| spread d c <| relay d c K

/-- The transfer of chunk `c` along z has left. -/
def zSent (d : Dev nD) (c : Fin 8) (K : Code F) : Code F :=
  .op (.waitDma2 (qs 0 c) (zRow c) (xSend d c) (View.wordExact_bits rfl) ((View.wordExact_bits rfl).reshape _ _)) fun _ => K

/-- The two halves of chunk `c` of the opposite quarter have come in. -/
def diagIn (d : Dev nD) (c : Fin 8) (K : Code F) : Code F :=
  .op (.waitDma2 (qs 8 c) (oHalf d 1 c 0) (oHalf d 1 c 0) (View.wordExact_bits rfl) (View.wordExact_bits rfl)) fun _ =>
  .op (.waitDma2 (qs 9 c) (oHalf d 1 c 1) (oHalf d 1 c 1) (View.wordExact_bits rfl) (View.wordExact_bits rfl)) fun _ => K

/-- The two halves of chunk `c` passed on have left. -/
def relaySent (d : Dev nD) (c : Fin 8) (K : Code F) : Code F :=
  .op (.waitDma2 (qs 6 c) (oHalf d 2 c 0) (oHalf d 2 c 0) (View.wordExact_bits rfl) (View.wordExact_bits rfl)) fun _ =>
  .op (.waitDma2 (qs 7 c) (oHalf d 0 c 1) (oHalf d 0 c 1) (View.wordExact_bits rfl) (View.wordExact_bits rfl)) fun _ => K

/-- A phase run for every chunk, in order. -/
def each (P : Fin 8 → Code F → Code F) (K : Code F) : Code F := P 0 <| P 1 <| P 2 <| P 3 <| P 4 <| P 5 <| P 6 <| P 7 K

/-- The work on a chunk from the third on: its slot's previous chunk is awaited first. -/
def chunkAgain (d : Dev nD) (b c : Fin 8) (K : Code F) : Code F := reuse d b <| chunk d c K

/-- The eight chunks, then the last two slots awaited. -/
def chunks (d : Dev nD) (K : Code F) : Code F :=
  chunk d 0 <| chunk d 1 <| chunkAgain d 0 2 <| chunkAgain d 1 3 <| chunkAgain d 2 4 <| chunkAgain d 3 5 <| chunkAgain d 4 6 <| chunkAgain d 5 7 <|
    reuse d 6 <| reuse d 7 K

/-- The body on device `d`. -/
def bodyOn (d : Dev nD) : Code F :=
  handshake d <| each (zSend d) <| chunks d <| each (zSent d) <| each (diagIn d) <| each (relaySent d) (.ret ⟨⟩)

set_option maxRecDepth 65536 in
set_option maxHeartbeats 0 in
/-- The printed body, on the launch's buffers, is the phases in order. -/
theorem body_eq :
    (cc0_body (F := F) xM (Memref.isWhole_whole _) oM (Memref.isWhole_whole _) rM (Memref.isWhole_whole _)
      cc0_scratch0 cc0_scratch1 cc0_scratch2 cc0_scratch3 cc0_scratch4 cc0_scratch5 cc0_scratch6 cc0_scratch7 cc0_scratch8 cc0_scratch9
      cc0_scratch10 cc0_scratch11 cc0_scratch12 aM (Memref.isWhole_whole _) bM (Memref.isWhole_whole _) sM (Memref.isWhole_whole _))
      = .op .deviceId fun d => bodyOn d := by
  chain_rfl

end Cert.AllReduce

end
-- ==== Proof.Mesh.lean ====
/-
The mesh and the geometry. A device has a place on the ring of four (`pos`) and a side along z (`side`); its neighbours
are `cw`, `ccw` and `zp`. The buffers are cut into blocks named by whole-buffer coordinates (`rows`, `zrows`, `xBlk`,
`slotS`), and every piece a transfer moves is one of these blocks, element by element.
-/
module

public import proofs.«01_k».proof.Proof.Prog
public import Idealize.ShloMosaic.Lib.ValueLayout

@[expose] public section

noncomputable section

namespace Cert.AllReduce

open Cert.KernelIdeal Cert.KernelIdeal.Gen
open Idealize.ShloMosaic Idealize.ShloMosaic.TcCoe Idealize.ShloMosaic.ValueIdx

/-! ## Places on the mesh -/

/-- The place of a device on the ring of four. -/
def pos (d : Dev nD) : Fin 4 :=
  ⟨(2 * (d.val / 4) + (if d.val / 4 = 0 then (d.val / 2) % 2 else 1 - (d.val / 2) % 2)) % 4, Nat.mod_lt _ (by decide)⟩
/-- The side of a device along z: which half of the summands it holds and which half of the columns it computes. -/
def side (d : Dev nD) : Fin 2 := ⟨d.val % 2, Nat.mod_lt _ (by decide)⟩
/-- The device at a place of the ring on a side. -/
def devAt (q : Fin 4) (z : Fin 2) : Dev nD :=
  ⟨(4 * (q.val / 2) + 2 * (if q.val / 2 = 0 then q.val % 2 else 1 - q.val % 2) + z.val) % 8, Nat.mod_lt _ (by decide)⟩

/-- The next device round the ring, the one before, and the partner along z. -/
def cw (d : Dev nD) : Dev nD := devAt (pos d + 1) (side d)
def ccw (d : Dev nD) : Dev nD := devAt (pos d + 3) (side d)
def zp (d : Dev nD) : Dev nD := devAt (pos d) (side d + 1)

theorem devCw_eq (d : Dev nD) : devCw d = cw d := by revert d; decide +kernel
theorem devCcw_eq (d : Dev nD) : devCcw d = ccw d := by revert d; decide +kernel
theorem devZ_eq (d : Dev nD) : devZ d = zp d := by revert d; decide +kernel

theorem pos_devAt (q : Fin 4) (z : Fin 2) : pos (devAt q z) = q := by revert q z; decide
theorem side_devAt (q : Fin 4) (z : Fin 2) : side (devAt q z) = z := by revert q z; decide
theorem devAt_self (d : Dev nD) : devAt (pos d) (side d) = d := by revert d; decide

theorem pos_cw (d : Dev nD) : pos (cw d) = pos d + 1 := pos_devAt _ _
theorem pos_ccw (d : Dev nD) : pos (ccw d) = pos d + 3 := pos_devAt _ _
theorem pos_zp (d : Dev nD) : pos (zp d) = pos d := pos_devAt _ _
theorem side_cw (d : Dev nD) : side (cw d) = side d := side_devAt _ _
theorem side_ccw (d : Dev nD) : side (ccw d) = side d := side_devAt _ _
theorem side_zp (d : Dev nD) : side (zp d) = side d + 1 := side_devAt _ _

theorem cw_ccw (d : Dev nD) : cw (ccw d) = d := by revert d; decide
theorem ccw_cw (d : Dev nD) : ccw (cw d) = d := by revert d; decide
theorem zp_zp (d : Dev nD) : zp (zp d) = d := by revert d; decide

/-- The three neighbour maps as bijections of the mesh. -/
def cwE : Dev nD ≃ Dev nD := ⟨cw, ccw, ccw_cw, cw_ccw⟩
def ccwE : Dev nD ≃ Dev nD := ⟨ccw, cw, cw_ccw, ccw_cw⟩
def zpE : Dev nD ≃ Dev nD := ⟨zp, zp, zp_zp, zp_zp⟩

/-! ## Blocks of the buffers -/

/-- Rows `a … a + n - 1` of the result. -/
def rows (a n : ℕ) : Finset S16384x1024.Idx := Finset.univ.filter fun i => a ≤ (i 0).val ∧ (i 0).val < a + n
/-- Rows `a … a + n - 1` of the buffer received along z. -/
def zrows (a n : ℕ) : Finset S4096x1024.Idx := Finset.univ.filter fun i => a ≤ (i 0).val ∧ (i 0).val < a + n
/-- The block of the argument at rows `a … a + 511` and columns `b … b + 1023`. -/
def xBlk (a b : ℕ) : Finset S1x16384x2048.Idx :=
  Finset.univ.filter fun i => (a ≤ (i 1).val ∧ (i 1).val < a + 512) ∧ (b ≤ (i 2).val ∧ (i 2).val < b + 1024)
/-- Slot `s` of a two-slot buffer. -/
def slotS (s : Fin 2) : Finset S2x512x1024.Idx := Finset.univ.filter fun i => (i 0).val = s.val

theorem mem_rows {a n : ℕ} {i : S16384x1024.Idx} : i ∈ rows a n ↔ a ≤ (i 0).val ∧ (i 0).val < a + n := by
  unfold rows; rw [Finset.mem_filter]; exact and_iff_right (Finset.mem_univ i)
theorem mem_zrows {a n : ℕ} {i : S4096x1024.Idx} : i ∈ zrows a n ↔ a ≤ (i 0).val ∧ (i 0).val < a + n := by
  unfold zrows; rw [Finset.mem_filter]; exact and_iff_right (Finset.mem_univ i)
theorem mem_xBlk {a b : ℕ} {i : S1x16384x2048.Idx} :
    i ∈ xBlk a b ↔ (a ≤ (i 1).val ∧ (i 1).val < a + 512) ∧ (b ≤ (i 2).val ∧ (i 2).val < b + 1024) := by
  unfold xBlk; rw [Finset.mem_filter]; exact and_iff_right (Finset.mem_univ i)
theorem mem_slotS {s : Fin 2} {i : S2x512x1024.Idx} : i ∈ slotS s ↔ (i 0).val = s.val := by
  unfold slotS; rw [Finset.mem_filter]; exact and_iff_right (Finset.mem_univ i)

/-- The first row of chunk `c` of quarter `q`, and of its half `h`. -/
abbrev ckRow (q : Fin 4) (c : Fin 8) : ℕ := 4096 * q.val + 512 * c.val
abbrev pcRow (q : Fin 4) (c : Fin 8) (h : Fin 2) : ℕ := 4096 * q.val + 512 * c.val + 256 * h.val

/-- Chunk `c` of quarter `q` of the result, and its half `h`. -/
def ck (q : Fin 4) (c : Fin 8) : Finset S16384x1024.Idx := rows (ckRow q c) 512
def pc (q : Fin 4) (c : Fin 8) (h : Fin 2) : Finset S16384x1024.Idx := rows (pcRow q c h) 256
/-- Chunk `c` of the buffer received along z. -/
def zc (c : Fin 8) : Finset S4096x1024.Idx := zrows (512 * c.val) 512
/-- Chunk `c` of quarter `q` of the argument, at the columns of side `z`. -/
def xc (q : Fin 4) (c : Fin 8) (z : Fin 2) : Finset S1x16384x2048.Idx := xBlk (ckRow q c) (1024 * z.val)

/-- A chunk is its two halves. -/
theorem ck_eq (q : Fin 4) (c : Fin 8) : ck q c = pc q c 0 ∪ pc q c 1 := by
  ext i
  have h0 : ((0 : Fin 2) : ℕ) = 0 := rfl
  have h1 : ((1 : Fin 2) : ℕ) = 1 := rfl
  rw [Finset.mem_union]; unfold ck pc ckRow pcRow; rw [mem_rows, mem_rows, mem_rows, h0, h1]; omega

theorem pc_disjoint {q q' : Fin 4} {c c' : Fin 8} {h h' : Fin 2} (hne : (q, c, h) ≠ (q', c', h')) : Disjoint (pc q c h) (pc q' c' h') := by
  rw [Finset.disjoint_left]
  intro i hi hi'
  unfold pc pcRow at hi hi'
  rw [mem_rows] at hi hi'
  refine hne ?_
  have hq : q = q' := Fin.ext (by omega)
  subst hq
  have hc : c = c' := Fin.ext (by omega)
  subst hc
  have hh : h = h' := Fin.ext (by omega)
  subst hh; rfl
theorem zc_disjoint {c c' : Fin 8} (hne : c ≠ c') : Disjoint (zc c) (zc c') := by
  rw [Finset.disjoint_left]
  intro i hi hi'
  unfold zc at hi hi'
  rw [mem_zrows] at hi hi'
  exact hne (Fin.ext (by omega))
theorem xc_disjoint {q : Fin 4} {c c' : Fin 8} {z z' : Fin 2} (hne : (c, z) ≠ (c', z')) : Disjoint (xc q c z) (xc q c' z') := by
  rw [Finset.disjoint_left]
  intro i hi hi'
  unfold xc ckRow at hi hi'
  rw [mem_xBlk] at hi hi'
  refine hne ?_
  have hc : c = c' := Fin.ext (by omega)
  subst hc
  have hz : z = z' := Fin.ext (by omega)
  subst hz; rfl
theorem slotS_disjoint {s s' : Fin 2} (hne : s ≠ s') : Disjoint (slotS s) (slotS s') := by
  rw [Finset.disjoint_left]
  intro i hi hi'
  rw [mem_slotS] at hi hi'
  exact hne (Fin.ext (hi.symm.trans hi'))

/-- The pieces make up the whole result; the chunks make up the buffer received along z; the slots a two-slot buffer. -/
theorem pc_univ : (Finset.univ : Finset (Fin 4 × Fin 8 × Fin 2)).biUnion (fun t => pc t.1 t.2.1 t.2.2) = Finset.univ := by
  refine Finset.eq_univ_iff_forall.mpr fun i => Finset.mem_biUnion.mpr ?_
  have hi : (i 0).val < 16384 := (i 0).isLt
  refine ⟨(⟨(i 0).val / 4096, by omega⟩, ⟨(i 0).val % 4096 / 512, by omega⟩, ⟨(i 0).val % 512 / 256, by omega⟩), Finset.mem_univ _, ?_⟩
  unfold pc; rw [mem_rows]; show 4096 * ((i 0).val / 4096) + 512 * ((i 0).val % 4096 / 512) + 256 * ((i 0).val % 512 / 256) ≤ (i 0).val ∧ _ < 4096 * ((i 0).val / 4096) + 512 * ((i 0).val % 4096 / 512) + 256 * ((i 0).val % 512 / 256) + 256
  omega
theorem zc_univ : (Finset.univ : Finset (Fin 8)).biUnion zc = Finset.univ := by
  refine Finset.eq_univ_iff_forall.mpr fun i => Finset.mem_biUnion.mpr ?_
  have hi : (i 0).val < 4096 := (i 0).isLt
  refine ⟨⟨(i 0).val / 512, by omega⟩, Finset.mem_univ _, ?_⟩
  unfold zc; rw [mem_zrows]; show 512 * ((i 0).val / 512) ≤ (i 0).val ∧ _ < 512 * ((i 0).val / 512) + 512
  omega
theorem slotS_univ : slotS 0 ∪ slotS 1 = Finset.univ := by
  refine Finset.eq_univ_iff_forall.mpr fun i => Finset.mem_union.mpr ?_
  have hi : (i 0).val < 2 := (i 0).isLt
  rw [mem_slotS, mem_slotS]
  show (i 0).val = 0 ∨ (i 0).val = 1
  omega

/-! ## The program's offsets, in these terms -/

theorem off1_eq : ∀ (d : Dev nD) (c : Fin 8), k0_off1 d (word (512 * c.val)) = ![0, ckRow (pos d) c, 1024 * (side d + 1).val] := by decide +kernel
theorem off2_eq : ∀ (d : Dev nD) (c : Fin 8), k0_off2 d (word (512 * c.val)) = ![0, ckRow (pos d) c, 1024 * (side d).val] := by decide +kernel
theorem off3_eq : ∀ (d : Dev nD) (c : Fin 8), k0_off3 d (word (512 * c.val)) = ![ckRow (pos d) c, 0] := by decide +kernel
theorem off4_eq : ∀ (d : Dev nD) (e : Fin 2) (c : Fin 8), k0_off4 d (word (1 + 2 * e.val)) (word (512 * c.val))
    = ![ckRow (if e = 0 then pos d + 1 else pos d + 3) c, 0] := by decide +kernel
theorem off5_eq : ∀ (d : Dev nD) (j : Fin 3) (c : Fin 8) (h : Fin 2), k0_off5 d (word (1 + j.val)) (word (512 * c.val)) (word (256 * h.val))
    = ![pcRow (pos d + j.succ) c h, 0] := by decide +kernel

/-! ## The pieces, element by element -/

section Emb

/-- The coordinates of an index of the result, of the buffer received along z, of the argument, of a two-slot buffer. -/
abbrev OAt (i : S16384x1024.Idx) (a b : ℕ) : Prop := (i 0).val = a ∧ (i 1).val = b
abbrev ZAt (i : S4096x1024.Idx) (a b : ℕ) : Prop := (i 0).val = a ∧ (i 1).val = b
abbrev XAt (i : S1x16384x2048.Idx) (a b : ℕ) : Prop := (i 1).val = a ∧ (i 2).val = b
abbrev SAt (i : S2x512x1024.Idx) (s a b : ℕ) : Prop := (i 0).val = s ∧ (i 1).val = a ∧ (i 2).val = b

/-- A rectangle of full rows of the result: where its elements lie. -/
theorem rows_emb {off : Fin 2 → ℕ} {a n : ℕ} (h : off = ![a, 0]) (inb) (y : (⟨2, ![n, 1024]⟩ : Shape).Idx) :
    (((Rect.unit (s := S16384x1024) off ![n, 1024] inb).emb y) 0).val = a + (y 0).val
      ∧ (((Rect.unit (s := S16384x1024) off ![n, 1024] inb).emb y) 1).val = (y 1).val := by
  subst h
  exact ⟨by rw [Rect.emb_apply]; show a + 1 * (y 0).val = _; omega, by rw [Rect.emb_apply]; show 0 + 1 * (y 1).val = _; omega⟩
theorem rows_set {off : Fin 2 → ℕ} {a n : ℕ} (h : off = ![a, 0]) (inb) : (Rect.unit (s := S16384x1024) off ![n, 1024] inb).set = rows a n := by
  subst h; ext i
  rw [Rect.mem_set_unit, mem_rows, Fin.forall_fin_two]
  refine and_iff_left ⟨Nat.zero_le _, ?_⟩
  have : (i 1).val < 1024 := (i 1).isLt
  show (i 1).val < 0 + 1024; omega

variable (d : Dev nD) (c : Fin 8)

theorem oOwn_emb (y : S512x1024.Idx) : OAt ((oOwn d c).view.emb y) (ckRow (pos d) c + (y 0).val) (y 1).val := rows_emb (off3_eq d c) _ y
theorem oOwn_set : (oOwn d c).view.set = ck (pos d) c := (View.set_slice_whole _ _).trans (rows_set (off3_eq d c) _)
theorem oNbr_set (e : Fin 2) : (oNbr d e c).view.set = ck (if e = 0 then pos d + 1 else pos d + 3) c :=
  (View.set_slice_whole _ _).trans (rows_set (off4_eq d e c) _)
theorem oHalf_emb (j : Fin 3) (h : Fin 2) (y : S256x1024.Idx) : OAt ((oHalf d j c h).view.emb y) (pcRow (pos d + j.succ) c h + (y 0).val) (y 1).val := rows_emb (off5_eq d j c h) _ y
theorem oHalf_set (j : Fin 3) (h : Fin 2) : (oHalf d j c h).view.set = pc (pos d + j.succ) c h :=
  (View.set_slice_whole _ _).trans (rows_set (off5_eq d j c h) _)

theorem zRow_emb (y : S512x1024.Idx) : ZAt ((zRow c).view.emb y) (512 * c.val + (y 0).val) (y 1).val :=
  ⟨by show 512 * c.val + 1 * (y 0).val = _; omega, by show 0 + 1 * (y 1).val = _; omega⟩
theorem zRow_set : (zRow c).view.set = zc c := by
  refine (View.set_slice_whole _ _).trans ?_
  ext i
  unfold zc
  rw [Rect.mem_set_unit, mem_zrows]
  refine Fin.forall_fin_two.trans (and_iff_left ⟨Nat.zero_le _, ?_⟩)
  have : (i 1).val < 1024 := (i 1).isLt
  show (i 1).val < 0 + 1024; omega

/-- The index of a squeezed block: a zero in front. -/
theorem squeeze_idx (h : S512x1024.numel = S1x512x1024.numel) (y : S512x1024.Idx) :
    ((Shape.reshapeEquiv h y) 0).val = 0 ∧ ((Shape.reshapeEquiv h y) 1).val = (y 0).val ∧ ((Shape.reshapeEquiv h y) 2).val = (y 1).val := by
  have e : y = ix2 (n0 := 512) (n1 := 1024) (y 0) (y 1) := funext fun a => by fin_cases a <;> rfl
  have e' : Shape.reshapeEquiv h y = ix3 (n0 := 1) (n1 := 512) (n2 := 1024) ⟨0, Nat.one_pos⟩ (y 0) (y 1) :=
    (congrArg (Shape.reshapeEquiv h) e).trans (reshapeEquiv_ix2_1ab (a := 512) (b := 1024) h (y 0) (y 1))
  rw [e']
  exact ⟨rfl, rfl, rfl⟩

theorem x_emb {off : Fin 3 → ℕ} {a b : ℕ} (h : off = ![0, a, b]) (inb) (hn) (y : S512x1024.Idx) :
    (((Rect.unit (s := S1x16384x2048) off S1x512x1024.size inb).emb (Shape.reshapeEquiv (s := S1x512x1024) (s' := S512x1024) hn y)) 1).val = a + (y 0).val
      ∧ (((Rect.unit (s := S1x16384x2048) off S1x512x1024.size inb).emb (Shape.reshapeEquiv (s := S1x512x1024) (s' := S512x1024) hn y)) 2).val = b + (y 1).val := by
  subst h
  obtain ⟨-, h1, h2⟩ := squeeze_idx hn y
  exact ⟨by rw [Rect.emb_apply, h1]; show a + 1 * (y 0).val = _; omega, by rw [Rect.emb_apply, h2]; show b + 1 * (y 1).val = _; omega⟩
theorem x_set {off : Fin 3 → ℕ} {a b : ℕ} (h : off = ![0, a, b]) (inb) : (Rect.unit (s := S1x16384x2048) off S1x512x1024.size inb).set = xBlk a b := by
  subst h; ext i
  rw [Rect.mem_set_unit, mem_xBlk]
  have h0 : (i 0).val < 1 := (i 0).isLt
  constructor
  · exact fun h => ⟨h 1, h 2⟩
  · intro h a
    fin_cases a
    · exact ⟨Nat.zero_le _, by show (i 0).val < 0 + 1; omega⟩
    · exact h.1
    · exact h.2

theorem xSend_emb (y : S512x1024.Idx) : XAt ((xSend d c).view.emb y) (ckRow (pos d) c + (y 0).val) (1024 * (side d + 1).val + (y 1).val) := x_emb (off1_eq d c) _ _ y
theorem xKeep_emb (y : S512x1024.Idx) : XAt ((xKeep d c).view.emb y) (ckRow (pos d) c + (y 0).val) (1024 * (side d).val + (y 1).val) := x_emb (off2_eq d c) _ _ y
theorem xSend_set : (xSend d c).view.set = xc (pos d) c (side d + 1) :=
  (View.set_reshape _ _).trans ((View.set_slice_whole _ _).trans (x_set (off1_eq d c) _))
theorem xKeep_set : (xKeep d c).view.set = xc (pos d) c (side d) :=
  (View.set_reshape _ _).trans ((View.set_slice_whole _ _).trans (x_set (off2_eq d c) _))

theorem slotR_set (s : Fin 2) : (slotR s).set = slotS s := by
  ext i
  rw [Rect.mem_set_unit, mem_slotS]
  have h1 : (i 1).val < 512 := (i 1).isLt
  have h2 : (i 2).val < 1024 := (i 2).isLt
  constructor
  · intro h
    have h0 := h 0
    have : s.val ≤ (i 0).val ∧ (i 0).val < s.val + 1 := h0
    omega
  · intro h a
    fin_cases a
    · show s.val ≤ (i 0).val ∧ (i 0).val < s.val + 1; omega
    · show 0 ≤ (i 1).val ∧ (i 1).val < 0 + 512; omega
    · show 0 ≤ (i 2).val ∧ (i 2).val < 0 + 1024; omega

theorem slotR_emb (s : Fin 2) (y : S1x512x1024.Idx) :
    (((slotR s).emb y) 0).val = s.val ∧ (((slotR s).emb y) 1).val = (y 1).val ∧ (((slotR s).emb y) 2).val = (y 2).val := by
  have h0 : (y 0).val < 1 := (y 0).isLt
  exact ⟨by rw [Rect.emb_apply]; show s.val + 1 * (y 0).val = _; omega, by rw [Rect.emb_apply]; show 0 + 1 * (y 1).val = _; omega,
    by rw [Rect.emb_apply]; show 0 + 1 * (y 2).val = _; omega⟩

theorem slot_emb (s : Fin 2) (hn) (y : S512x1024.Idx) :
    (((slotR s).emb (Shape.reshapeEquiv (s := S1x512x1024) (s' := S512x1024) hn y)) 0).val = s.val
      ∧ (((slotR s).emb (Shape.reshapeEquiv (s := S1x512x1024) (s' := S512x1024) hn y)) 1).val = (y 0).val
      ∧ (((slotR s).emb (Shape.reshapeEquiv (s := S1x512x1024) (s' := S512x1024) hn y)) 2).val = (y 1).val := by
  obtain ⟨-, h1, h2⟩ := squeeze_idx hn y
  obtain ⟨e0, e1, e2⟩ := slotR_emb s (Shape.reshapeEquiv hn y)
  exact ⟨e0, e1.trans h1, e2.trans h2⟩

variable (s : Fin 2)
theorem aSlot_set : (slotV aM s).view.set = slotS s := (View.set_reshape _ _).trans ((View.set_slice_whole _ _).trans (slotR_set s))
theorem bSlot_set : (slotV bM s).view.set = slotS s := (View.set_reshape _ _).trans ((View.set_slice_whole _ _).trans (slotR_set s))
theorem sSlot_set : (slotV sM s).view.set = slotS s := (View.set_reshape _ _).trans ((View.set_slice_whole _ _).trans (slotR_set s))
theorem aSlot_emb (y : S512x1024.Idx) : SAt ((slotV aM s).view.emb y) s.val (y 0).val (y 1).val := slot_emb s _ y
theorem bSlot_emb (y : S512x1024.Idx) : SAt ((slotV bM s).view.emb y) s.val (y 0).val (y 1).val := slot_emb s _ y
theorem sSlot_emb (y : S512x1024.Idx) : SAt ((slotV sM s).view.emb y) s.val (y 0).val (y 1).val := slot_emb s _ y

end Emb

end Cert.AllReduce

end
-- ==== Proof.Contents.lean ====
/-
What the buffers hold. The contents are given as functions of whole-buffer coordinates: the argument `xv`, the buffer
received along z `zF`, the two summands of a chunk in their slots `aF` and `bF`, the sum `sF`, the result `oF`. Every
transfer and the store leave their target block at these contents.
-/
module

public import proofs.«01_k».proof.Proof.Mesh
public import Idealize.ShloMosaic.Lib.Rounds
public import Idealize.ShloMosaic.Lib.Transfers
public import Idealize.ShloMosaic.Lib.ViewIndex
public import Idealize.ShloMosaic.Lib.Pipeline.Value

@[expose] public section

noncomputable section

namespace Cert.AllReduce

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-! ## The functions -/

/-- The argument on device `d`. -/
def xv (d : Dev nD) : S1x16384x2048.Idx → F .f32 := m ((d : Thread nD τ).loc main_arg0)
/-- The argument's element at row `a` and column `b`. -/
def xAt (d : Dev nD) (a b : ℕ) : F .f32 :=
  xv m d (ix3 (n0 := 1) (n1 := 16384) (n2 := 2048) 0 ⟨a % 16384, Nat.mod_lt _ (by decide)⟩ ⟨b % 2048, Nat.mod_lt _ (by decide)⟩)
/-- The result's element at row `a` and column `b` on side `z`: the two sides' summands added, the side's own first. -/
def oAt (z : Fin 2) (a b : ℕ) : F .f32 :=
  FloatOps.addf (xAt m (devAt ⟨a / 4096 % 4, Nat.mod_lt _ (by decide)⟩ z) a (1024 * z.val + b))
    (xAt m (devAt ⟨a / 4096 % 4, Nat.mod_lt _ (by decide)⟩ (z + 1)) a (1024 * z.val + b))

/-- The result on side `z`. -/
def oF (z : Fin 2) : S16384x1024.Idx → F .f32 := fun i => oAt m z (i 0).val (i 1).val
/-- What device `d` receives along z: its partner's summand of its own quarter and columns. -/
def zF (d : Dev nD) : S4096x1024.Idx → F .f32 := fun i => xAt m (zp d) (4096 * (pos d).val + (i 0).val) (1024 * (side d).val + (i 1).val)
/-- Device `d`'s own summand of chunk `c`, its partner's, and their sum, in a slot. -/
def aF (d : Dev nD) (c : Fin 8) : S2x512x1024.Idx → F .f32 := fun i => xAt m d (ckRow (pos d) c + (i 1).val) (1024 * (side d).val + (i 2).val)
def bF (d : Dev nD) (c : Fin 8) : S2x512x1024.Idx → F .f32 := fun i => xAt m (zp d) (ckRow (pos d) c + (i 1).val) (1024 * (side d).val + (i 2).val)
def sF (d : Dev nD) (c : Fin 8) : S2x512x1024.Idx → F .f32 := fun i => oAt m (side d) (ckRow (pos d) c + (i 1).val) (i 2).val

theorem xv_eq (d : Dev nD) {i : S1x16384x2048.Idx} {a b : ℕ} (h : XAt i a b) : xv m d i = xAt m d a b := by
  unfold xAt
  refine congrArg (xv m d) (funext fun ax => Fin.ext ?_)
  have h0 : (i 0).val < 1 := (i 0).isLt
  have h1 : (i 1).val < 16384 := (i 1).isLt
  have h2 : (i 2).val < 2048 := (i 2).isLt
  fin_cases ax
  · show (i 0).val = 0; omega
  · show (i 1).val = a % 16384; rw [← h.1, Nat.mod_eq_of_lt h1]
  · show (i 2).val = b % 2048; rw [← h.2, Nat.mod_eq_of_lt h2]
theorem oF_eq (z : Fin 2) {i : S16384x1024.Idx} {a b : ℕ} (h : OAt i a b) : oF m z i = oAt m z a b := by unfold oF; rw [h.1, h.2]
theorem zF_eq (d : Dev nD) {i : S4096x1024.Idx} {a b : ℕ} (h : ZAt i a b) :
    zF m d i = xAt m (zp d) (4096 * (pos d).val + a) (1024 * (side d).val + b) := by unfold zF; rw [h.1, h.2]
theorem aF_eq (d : Dev nD) (c : Fin 8) {i : S2x512x1024.Idx} {s a b : ℕ} (h : SAt i s a b) :
    aF m d c i = xAt m d (ckRow (pos d) c + a) (1024 * (side d).val + b) := by unfold aF; rw [h.2.1, h.2.2]
theorem bF_eq (d : Dev nD) (c : Fin 8) {i : S2x512x1024.Idx} {s a b : ℕ} (h : SAt i s a b) :
    bF m d c i = xAt m (zp d) (ckRow (pos d) c + a) (1024 * (side d).val + b) := by unfold bF; rw [h.2.1, h.2.2]
theorem sF_eq (d : Dev nD) (c : Fin 8) {i : S2x512x1024.Idx} {s a b : ℕ} (h : SAt i s a b) :
    sF m d c i = oAt m (side d) (ckRow (pos d) c + a) b := by unfold sF; rw [h.2.1, h.2.2]

/-- A sum is made of the two summands. -/
theorem sF_sum (d : Dev nD) (c : Fin 8) (i : S2x512x1024.Idx) : sF m d c i = FloatOps.addf (aF m d c i) (bF m d c i) := by
  have h1 : (i 1).val < 512 := (i 1).isLt
  have hq : (⟨(ckRow (pos d) c + (i 1).val) / 4096 % 4, Nat.mod_lt _ (by decide)⟩ : Fin 4) = pos d := Fin.ext (by
    show (4096 * (pos d).val + 512 * c.val + (i 1).val) / 4096 % 4 = (pos d).val; omega)
  unfold sF aF bF oAt
  rw [hq, devAt_self]; rfl

/-- The stored vector, element by element. -/
theorem pay_apply (u v : Vec F S1x512x1024 .f32) (y : S1x512x1024.Idx) : k0_pay1 u v y = FloatOps.addf (u y) (v y) := by
  unfold k0_pay1
  show FloatOps.addf (u (Shape.reshapeEquiv _ (Shape.reshapeEquiv _ y))) (v (Shape.reshapeEquiv _ (Shape.reshapeEquiv _ y))) = _
  rw [Shape.reshapeEquiv_reshapeEquiv, Shape.reshapeEquiv_self]

/-! ## What a write leaves -/

/-- A write of what a function reads as leaves that function on the view's elements. -/
theorem write_on {κ : Kind} {sp : Space} {s : Shape} {e : EltTy} (v : View sig κ sp s e) (fd g : v.ty.Contents (Elt F)) (w : s.Idx → Elt F e)
    (h : ∀ y, v.read (Elt F) g y = w y) : ∀ i ∈ v.set, v.write (Elt F) fd w Finset.univ i = g i := by
  intro i hi
  obtain ⟨y, rfl⟩ := View.exists_emb_of_mem_set v hi
  exact View.eq_of_read_eq ((View.read_write_of_mem fd w (Finset.mem_univ y)).trans (h y).symm)

variable (d : Dev nD) (c : Fin 8)

/-- The transfer along z leaves the partner's receive buffer at its contents. -/
theorem z_lands (fd : S4096x1024.Idx → F .f32) : ∀ i ∈ (zRow c).view.set,
    (zRow c).view.write (Elt F) fd ((xSend d c).view.read (Elt F) (xv m d)) Finset.univ i = zF m (zp d) i :=
  write_on (zRow c).view fd (zF m (zp d)) _ fun y => by
    show zF m (zp d) ((zRow c).view.emb y) = xv m d ((xSend d c).view.emb y)
    rw [zF_eq m (zp d) (zRow_emb c y), xv_eq m d (xSend_emb d c y), zp_zp, pos_zp, side_zp, Nat.add_assoc]
/-- The two copies into the slots. -/
theorem a_lands (fd : S2x512x1024.Idx → F .f32) : ∀ i ∈ (slotV aM (slot c)).view.set,
    (slotV aM (slot c)).view.write (Elt F) fd ((xKeep d c).view.read (Elt F) (xv m d)) Finset.univ i = aF m d c i :=
  write_on (slotV aM (slot c)).view fd (aF m d c) _ fun y => by
    show aF m d c ((slotV aM (slot c)).view.emb y) = xv m d ((xKeep d c).view.emb y)
    rw [aF_eq m d c (aSlot_emb (slot c) y), xv_eq m d (xKeep_emb d c y)]
theorem b_lands (fd : S2x512x1024.Idx → F .f32) : ∀ i ∈ (slotV bM (slot c)).view.set,
    (slotV bM (slot c)).view.write (Elt F) fd ((zRow c).view.read (Elt F) (zF m d)) Finset.univ i = bF m d c i :=
  write_on (slotV bM (slot c)).view fd (bF m d c) _ fun y => by
    show bF m d c ((slotV bM (slot c)).view.emb y) = zF m d ((zRow c).view.emb y)
    rw [bF_eq m d c (bSlot_emb (slot c) y), zF_eq m d (zRow_emb c y), Nat.add_assoc]
/-- The sum sent into a result. -/
theorem o_lands (fd : S16384x1024.Idx → F .f32) : ∀ i ∈ (oOwn d c).view.set,
    (oOwn d c).view.write (Elt F) fd ((slotV sM (slot c)).view.read (Elt F) (sF m d c)) Finset.univ i = oF m (side d) i :=
  write_on (oOwn d c).view fd (oF m (side d)) _ fun y => by
    show oF m (side d) ((oOwn d c).view.emb y) = sF m d c ((slotV sM (slot c)).view.emb y)
    rw [oF_eq m (side d) (oOwn_emb d c y), sF_eq m d c (sSlot_emb (slot c) y)]
/-- A half passed on. -/
theorem h_lands (j : Fin 3) (h z : Fin 2) (fd : S16384x1024.Idx → F .f32) : ∀ i ∈ (oHalf d j c h).view.set,
    (oHalf d j c h).view.write (Elt F) fd ((oHalf d j c h).view.read (Elt F) (oF m z)) Finset.univ i = oF m z i :=
  write_on (oHalf d j c h).view fd (oF m z) _ fun y => rfl

/-- The store leaves the sum in the slot. -/
theorem s_stored (fd : S2x512x1024.Idx → F .f32) : ∀ i ∈ (sM.access (slotR (slot c))).set,
    (sM.access (slotR (slot c))).write (Elt F) fd
      (k0_pay1 (aM.view.readAt (Elt F) (slotR (slot c)).toLoadRect (aF m d c)) (bM.view.readAt (Elt F) (slotR (slot c)).toLoadRect (bF m d c)))
      Finset.univ i = sF m d c i :=
  write_on (sM.access (slotR (slot c))) fd (sF m d c) _ fun y => by
    rw [pay_apply]
    exact sF_sum m d c ((slotR (slot c)).emb y)

end Cert.AllReduce

end
-- ==== Proof.Schedule.lean ====
/-
The protocol. A device's cells are its barrier cell and, for each of the ten kinds of transfer semaphore and each of the
eight chunks, one cell; every cell has one round. Kinds come in pairs, a sender's cell and the receiver's:

  0 → 1   a block along z to the partner          2 → 4   a sum to the next device        3 → 5   a sum to the previous one
  6 → 8   a half passed on to the next device     7 → 9   a half passed on to the previous one

A sender's cell hands the source back; a receiver's cell hands the block that has landed, with its contents. The barrier cell
has three duties, one per neighbour, each handing the blocks of the neighbour's buffers that this device will write.
-/
module

public import proofs.«01_k».proof.Proof.Contents
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ)

/-! ## What a device holds of its buffers -/

abbrev xL (d : Dev nD) : Loc nD τ sig := (d : Thread nD τ).loc main_arg0
abbrev oL (d : Dev nD) : Loc nD τ sig := (d : Thread nD τ).loc main_v1_0
abbrev rL (d : Dev nD) : Loc nD τ sig := (d : Thread nD τ).loc main_v1_1
abbrev aL (d : Dev nD) : Loc nD τ sig := (d : Thread nD τ).loc cc0_scratch13
abbrev bL (d : Dev nD) : Loc nD τ sig := (d : Thread nD τ).loc cc0_scratch14
abbrev sL (d : Dev nD) : Loc nD τ sig := (d : Thread nD τ).loc cc0_scratch15

/-- Elements of the argument, the result, the buffer received along z, and the three slot buffers, at given contents. -/
abbrev xPt (d : Dev nD) (S : Finset S1x16384x2048.Idx) (f : S1x16384x2048.Idx → F .f32) : sProp 𝕄 := xL d ↦[S]{fullShare} f
abbrev oPt (d : Dev nD) (S : Finset S16384x1024.Idx) (f : S16384x1024.Idx → F .f32) : sProp 𝕄 := oL d ↦[S]{fullShare} f
abbrev rPt (d : Dev nD) (S : Finset S4096x1024.Idx) (f : S4096x1024.Idx → F .f32) : sProp 𝕄 := rL d ↦[S]{fullShare} f
abbrev aPt (d : Dev nD) (S : Finset S2x512x1024.Idx) (f : S2x512x1024.Idx → F .f32) : sProp 𝕄 := aL d ↦[S]{fullShare} f
abbrev bPt (d : Dev nD) (S : Finset S2x512x1024.Idx) (f : S2x512x1024.Idx → F .f32) : sProp 𝕄 := bL d ↦[S]{fullShare} f
abbrev sPt (d : Dev nD) (q : PosShare TreeShare) (S : Finset S2x512x1024.Idx) (f : S2x512x1024.Idx → F .f32) : sProp 𝕄 := sL d ↦[S]{q} f

/-- The three shares of a sum: one for each ring neighbour, one for the copy into the device's own result. -/
def shCw : PosShare TreeShare := fullShare.right
def shCcw : PosShare TreeShare := fullShare.left.right
def shOwn : PosShare TreeShare := fullShare.left.left

/-- The result before the launch, and the buffer received along z. -/
def o0 (d : Dev nD) : S16384x1024.Idx → F .f32 := m (oL d)
def r0 (d : Dev nD) : S4096x1024.Idx → F .f32 := m (rL d)

/-! ## Cells -/

abbrev barCell (d : Dev nD) : GSem nD τ sig := ((d : Thread nD τ), .reg barS)
abbrev dcell (d : Dev nD) (k : Fin 10) (c : Fin 8) : GSem nD τ sig := ((d : Thread nD τ), .dma (qs k c))
abbrev lcell (d : Dev nD) (j : Fin 3) (s : Fin 2) : GSem nD τ sig := ((d : Thread nD τ), .dma (ls j s))

/-- The cells that have a round: a device's barrier cell and its eighty transfer cells. -/
abbrev CellIx : Type := Option (Fin 10 × Fin 8)
def csem : CellIx → SemLoc sig
  | none => .reg barS
  | some kc => .dma (qs kc.1 kc.2)
abbrev kcell (x : Dev nD × CellIx) : GSem nD τ sig := ((x.1 : Thread nD τ), csem x.2)

/-- The kind and the chunk a DMA semaphore's number names. -/
def kindOf (q : DmaSem sig) : Fin 10 := ⟨q.val / 8 % 10, Nat.mod_lt _ (by decide)⟩
def chunkOf (q : DmaSem sig) : Fin 8 := ⟨q.val % 8, Nat.mod_lt _ (by decide)⟩

theorem kindOf_qs (k : Fin 10) (c : Fin 8) : kindOf (qs k c) = k := Fin.ext (by show (8 * k.val + c.val) / 8 % 10 = k.val; omega)
theorem chunkOf_qs (k : Fin 10) (c : Fin 8) : chunkOf (qs k c) = c := Fin.ext (by show (8 * k.val + c.val) % 8 = c.val; omega)
theorem qs_lt (k : Fin 10) (c : Fin 8) : (qs k c).val < 80 := by show 8 * k.val + c.val < 80; omega
theorem ls_ge (j : Fin 3) (s : Fin 2) : ¬ (ls j s).val < 80 := by show ¬ 80 + 2 * j.val + s.val < 80; omega

theorem dcell_inj {d d' : Dev nD} {k k' : Fin 10} {c c' : Fin 8} (h : dcell d k c = dcell d' k' c') : d = d' ∧ k = k' ∧ c = c' := by
  have h1 : d = d' := congrArg (fun g : GSem nD τ sig => g.1.1) h
  have h2 : (SemLoc.dma (qs k c) : SemLoc sig) = .dma (qs k' c') := congrArg Prod.snd h
  have h3 : qs k c = qs k' c' := by injection h2
  exact ⟨h1, by rw [← kindOf_qs k c, h3, kindOf_qs], by rw [← chunkOf_qs k c, h3, chunkOf_qs]⟩
theorem barCell_inj {d d' : Dev nD} (h : barCell d = barCell d') : d = d' := congrArg (fun g : GSem nD τ sig => g.1.1) h
theorem dcell_ne_bar {d d' : Dev nD} {k : Fin 10} {c : Fin 8} : dcell d k c ≠ barCell d' := fun h => by
  have h2 : (SemLoc.dma (qs k c) : SemLoc sig) = .reg barS := congrArg Prod.snd h
  cases h2

/-! ## The credit of a transfer -/

/-- The units of a transfer of a chunk, and of a half. -/
abbrev NC : ℕ := (zRow 0).view.dmaCredit
abbrev NH : ℕ := (oHalf 0 0 0 0).view.dmaCredit
theorem NC_pos : 0 < NC := View.dmaCredit_pos _ (by decide)
theorem NH_pos : 0 < NH := View.dmaCredit_pos _ (by decide)
/-- The units of a transfer on a semaphore of a kind. -/
def amt (k : Fin 10) : ℕ := if k.val < 6 then NC else NH
theorem amt_pos (k : Fin 10) : 0 < amt k := by unfold amt; split; exacts [NC_pos, NH_pos]

/-! ## The schedule -/

/-- What the barrier cell's duty of each neighbour hands device `d`: from the previous device on the ring (0) the blocks of
    that device's result that `d` writes, likewise from the next (1), and from the partner along z (2) its receive buffer. -/
def barPay (d : Dev nD) : Fin 3 → sProp 𝕄
  | 0 => bigSep Finset.univ fun c : Fin 8 => iprop(oPt (ccw d) (ck (pos d) c) (o0 m (ccw d)) ∗ oPt (ccw d) (pc (pos d + 1) c 1) (o0 m (ccw d)))
  | 1 => bigSep Finset.univ fun c : Fin 8 => iprop(oPt (cw d) (ck (pos d) c) (o0 m (cw d)) ∗ oPt (cw d) (pc (pos d + 3) c 0) (o0 m (cw d)))
  | 2 => bigSep Finset.univ fun c : Fin 8 => rPt (zp d) (zc c) (r0 m (zp d))

/-- What the transfer cell of a kind and a chunk hands device `d`. -/
def pay (d : Dev nD) : Fin 10 → Fin 8 → sProp 𝕄
  | 0, c => xPt d (xc (pos d) c (side d + 1)) (xv m d)
  | 1, c => rPt d (zc c) (zF m d)
  | 2, c => sPt d shCw (slotS (slot c)) (sF m d c)
  | 3, c => sPt d shCcw (slotS (slot c)) (sF m d c)
  | 4, c => oPt d (ck (pos d + 3) c) (oF m (side d))
  | 5, c => oPt d (ck (pos d + 1) c) (oF m (side d))
  | 6, c => oPt d (pc (pos d + 3) c 0) (oF m (side d))
  | 7, c => oPt d (pc (pos d + 1) c 1) (oF m (side d))
  | 8, c => oPt d (pc (pos d + 2) c 0) (oF m (side d))
  | 9, c => oPt d (pc (pos d + 2) c 1) (oF m (side d))

/-- The same, kind by kind. -/
theorem pay_0 (d : Dev nD) (c : Fin 8) : pay m d 0 c = xPt d (xc (pos d) c (side d + 1)) (xv m d) := rfl
theorem pay_1 (d : Dev nD) (c : Fin 8) : pay m d 1 c = rPt d (zc c) (zF m d) := rfl
theorem pay_2 (d : Dev nD) (c : Fin 8) : pay m d 2 c = sPt d shCw (slotS (slot c)) (sF m d c) := rfl
theorem pay_3 (d : Dev nD) (c : Fin 8) : pay m d 3 c = sPt d shCcw (slotS (slot c)) (sF m d c) := rfl
theorem pay_4 (d : Dev nD) (c : Fin 8) : pay m d 4 c = oPt d (ck (pos d + 3) c) (oF m (side d)) := rfl
theorem pay_5 (d : Dev nD) (c : Fin 8) : pay m d 5 c = oPt d (ck (pos d + 1) c) (oF m (side d)) := rfl
theorem pay_6 (d : Dev nD) (c : Fin 8) : pay m d 6 c = oPt d (pc (pos d + 3) c 0) (oF m (side d)) := rfl
theorem pay_7 (d : Dev nD) (c : Fin 8) : pay m d 7 c = oPt d (pc (pos d + 1) c 1) (oF m (side d)) := rfl
theorem pay_8 (d : Dev nD) (c : Fin 8) : pay m d 8 c = oPt d (pc (pos d + 2) c 0) (oF m (side d)) := rfl
theorem pay_9 (d : Dev nD) (c : Fin 8) : pay m d 9 c = oPt d (pc (pos d + 2) c 1) (oF m (side d)) := rfl
theorem barPay_0 (d : Dev nD) : barPay m d 0
    = bigSep Finset.univ fun c : Fin 8 => iprop(oPt (ccw d) (ck (pos d) c) (o0 m (ccw d)) ∗ oPt (ccw d) (pc (pos d + 1) c 1) (o0 m (ccw d))) := rfl
theorem barPay_1 (d : Dev nD) : barPay m d 1
    = bigSep Finset.univ fun c : Fin 8 => iprop(oPt (cw d) (ck (pos d) c) (o0 m (cw d)) ∗ oPt (cw d) (pc (pos d + 3) c 0) (o0 m (cw d))) := rfl
theorem barPay_2 (d : Dev nD) : barPay m d 2 = bigSep Finset.univ fun c : Fin 8 => rPt (zp d) (zc c) (r0 m (zp d)) := rfl

/-- The schedule: one round a cell, its duties as above. -/
def Rd : Rounds.Schedule (GSem nD τ sig) (Fin 3) 𝕄 where
  duties g r := if r = 0 then (match g.2 with | .reg _ => Finset.univ | .dma q => {0}) else ∅
  unitless _ := False
  amount g _ _ := match g.2 with | .reg _ => 1 | .dma q => amt (kindOf q)
  payload g _ j := match g.2 with | .reg _ => barPay m g.1.1 j | .dma q => pay m g.1.1 (kindOf q) (chunkOf q)
  amount_pos g _ _ _ := by
    rcases g with ⟨t, sm⟩
    cases sm
    · exact Nat.one_pos
    · exact amt_pos _

instance barPay_storable (d : Dev nD) (j : Fin 3) : BI.Storable (upEmb : UEmb _ 𝕄) (barPay m d j) := by
  unfold barPay; fin_cases j <;> infer_instance
instance pay_storable (d : Dev nD) (k : Fin 10) (c : Fin 8) : BI.Storable (upEmb : UEmb _ 𝕄) (pay m d k c) := by
  unfold pay; fin_cases k <;> infer_instance
instance payload_storable (g : GSem nD τ sig) (r : ℕ) (j : Fin 3) : BI.Storable (upEmb : UEmb _ 𝕄) ((Rd (F := F) m).payload g r j) := by
  rcases g with ⟨t, sm⟩
  cases sm
  · exact barPay_storable m _ _
  · exact pay_storable m _ _ _

theorem duties_bar (d : Dev nD) : (Rd (F := F) m).duties (barCell d) 0 = Finset.univ := rfl
theorem duties_dma (d : Dev nD) (k : Fin 10) (c : Fin 8) : (Rd (F := F) m).duties (dcell d k c) 0 = {0} := rfl
theorem duties_later (g : GSem nD τ sig) : ∀ r, 1 ≤ r → (Rd (F := F) m).duties g r = ∅ := fun r hr => if_neg (by omega)
theorem amount_dma (d : Dev nD) (k : Fin 10) (c : Fin 8) (j : Fin 3) : (Rd (F := F) m).amount (dcell d k c) 0 j = amt k := congrArg amt (kindOf_qs k c)
theorem payload_bar (d : Dev nD) (j : Fin 3) : (Rd (F := F) m).payload (barCell d) 0 j = barPay m d j := rfl
theorem payload_dma (d : Dev nD) (k : Fin 10) (c : Fin 8) (j : Fin 3) : (Rd (F := F) m).payload (dcell d k c) 0 j = pay m d k c := by
  show pay m d (kindOf (qs k c)) (chunkOf (qs k c)) = _; rw [kindOf_qs, chunkOf_qs]
theorem expect_bar (d : Dev nD) : (Rd (F := F) m).expect (barCell d) 0 = 3 := by
  unfold Schedule.expect Schedule.amountOf; rw [duties_bar]; rfl
theorem expect_dma (d : Dev nD) (k : Fin 10) (c : Fin 8) : (Rd (F := F) m).expect (dcell d k c) 0 = amt k := by
  unfold Schedule.expect Schedule.amountOf; rw [duties_dma, Finset.sum_singleton, amount_dma]
theorem rest_bar (d : Dev nD) : bigSep ((Rd (F := F) m).duties (barCell d) 0 \ ∅) (fun j => (Rd (F := F) m).payload (barCell d) 0 j)
    = iprop(barPay m d 0 ∗ barPay m d 1 ∗ barPay m d 2) := by
  rw [Finset.sdiff_empty, duties_bar]; exact bigSep_univ_eq_bigSepL ([0, 1, 2] : List (Fin 3)) (by decide) (by decide) _
theorem rest_dma (d : Dev nD) (k : Fin 10) (c : Fin 8) : bigSep ((Rd (F := F) m).duties (dcell d k c) 0 \ ∅) (fun j => (Rd (F := F) m).payload (dcell d k c) 0 j)
    = pay m d k c := by
  rw [Finset.sdiff_empty, duties_dma, bigSep_singleton, payload_dma]

/-! ## Levels -/

def L (g : GSem nD τ sig) : Finset Unit := if g.1.2 = .tc then {()} else ∅
/-- A device waits only for cells of lower level than those it still has to pay: its own copies and its senders' cells at 0, the
    barrier at 1, the transfers along z at 2, the sums of chunk `c` at `3 + c`, the halves passed on last. -/
def lv (g : GSem nD τ sig) (_ : Unit) : ℕ := match g.2 with
  | .reg _ => 1
  | .dma q => if q.val < 80 then (match kindOf q with | 1 => 2 | 4 => 3 + (chunkOf q).val | 5 => 3 + (chunkOf q).val | 8 => 100 | 9 => 100 | _ => 0) else 0

theorem L_of_ne (g : GSem nD τ sig) (h : g.1.2 ≠ .tc) : L g = ∅ := if_neg h
theorem L_tc (d : Dev nD) (sm : SemLoc sig) : L ((d : Thread nD τ), sm) = {()} := if_pos rfl

/-- The level of a kind's cell. -/
def klv (k : Fin 10) (c : Fin 8) : ℕ := match k with | 1 => 2 | 4 => 3 + c.val | 5 => 3 + c.val | 8 => 100 | 9 => 100 | _ => 0
theorem lv_dma (d : Dev nD) (k : Fin 10) (c : Fin 8) : lv (dcell d k c) () = klv k c := by
  show (if (qs k c).val < 80 then klv (kindOf (qs k c)) (chunkOf (qs k c)) else 0) = _
  rw [if_pos (qs_lt k c), kindOf_qs, chunkOf_qs]
theorem lv_bar (d : Dev nD) : lv (barCell d) () = 1 := rfl
theorem lv_loc (d : Dev nD) (j : Fin 3) (s : Fin 2) : lv (lcell d j s) () = 0 := by
  show (if (ls j s).val < 80 then klv (kindOf (ls j s)) (chunkOf (ls j s)) else 0) = _
  rw [if_neg (ls_ge j s)]

/-- Everything the tallies `O` owe lies above level `n`. -/
def Above (n : ℕ) (O : CellTallies nD τ sig Unit) : Prop := ∀ g, 0 < O g () → g.1.2 = .tc ∧ n < lv g ()

theorem Above.zero (n : ℕ) : Above n 0 := fun g h => absurd h (Nat.lt_irrefl 0)
theorem Above.add {n : ℕ} {O O' : CellTallies nD τ sig Unit} (h : Above n O) (h' : Above n O') : Above n (O + O') := fun g hg => by
  rw [Pi.add_apply, Finsupp.add_apply] at hg
  rcases Nat.eq_zero_or_pos (O g ()) with h0 | h0
  · exact h' g (by omega)
  · exact h g h0
theorem Above.at {n : ℕ} (d : Dev nD) (sm : SemLoc sig) (k : ℕ) (h : n < lv ((d : Thread nD τ), sm) ()) : Above n (tallyAt ((d : Thread nD τ), sm) () k) := fun g hg => by
  rw [tallyAt_apply] at hg
  by_cases hc : g = ((d : Thread nD τ), sm) ∧ () = ()
  · rw [hc.1]; exact ⟨rfl, h⟩
  · rw [if_neg hc] at hg; exact absurd hg (Nat.lt_irrefl 0)
theorem Above.sum {n : ℕ} {ι : Type} (S : Finset ι) (f : ι → CellTallies nD τ sig Unit) (h : ∀ i ∈ S, Above n (f i)) : Above n (∑ i ∈ S, f i) := by
  classical
  induction S using Finset.induction_on with
  | empty => rw [Finset.sum_empty]; exact Above.zero n
  | insert a S ha ih =>
    rw [Finset.sum_insert ha]
    exact (h a (Finset.mem_insert_self _ _)).add (ih fun i hi => h i (Finset.mem_insert_of_mem hi))

/-- A device that owes only above a cell's level may wait for it. -/
theorem mayWait (d : Dev nD) (sm : SemLoc sig) {n : ℕ} {O : CellTallies nD τ sig Unit} (hsm : lv ((d : Thread nD τ), sm) () ≤ n) (h : Above n O) :
    (levAts L lv : sProp 𝕄) ⊢ MayWait (d : Thread nD τ) sm () O :=
  MayOwe.of_cut (L := L) (lev := lv) n (fun p hp => by rw [Finset.mem_singleton.mp hp, L_tc]; exact Finset.mem_singleton_self _)
    (fun g u hg => by
      cases u
      have := (h g hg).1
      unfold L; rw [if_pos this]; exact Finset.mem_singleton_self _)
    (fun p hp => by rw [Finset.mem_singleton.mp hp]; exact hsm)
    (fun g u hg => by cases u; exact (h g hg).2)

/-! ## What a device owes -/

/-- The units device `d` owes the receivers of chunk `c`: of its sum and the halves it passes on, summed in the order they are
    paid from the right; and along z. -/
def owF (d : Dev nD) (c : Fin 8) (R : CellTallies nD τ sig Unit) : CellTallies nD τ sig Unit :=
  R + tallyAt (dcell (ccw d) 9 c) () (amt 9) + tallyAt (dcell (cw d) 8 c) () (amt 8) + tallyAt (dcell (ccw d) 5 c) () (amt 5) + tallyAt (dcell (cw d) 4 c) () (amt 4)
def owZ (d : Dev nD) (c : Fin 8) : CellTallies nD τ sig Unit := tallyAt (dcell (zp d) 1 c) () (amt 1)

/-- The same for the chunks from the `n`-th on. -/
def owFs (d : Dev nD) (n : ℕ) : CellTallies nD τ sig Unit := ∑ c ∈ Finset.univ.filter (fun c : Fin 8 => n ≤ c.val), owF d c 0
def owZs (d : Dev nD) (n : ℕ) : CellTallies nD τ sig Unit := ∑ c ∈ Finset.univ.filter (fun c : Fin 8 => n ≤ c.val), owZ d c

theorem sum_peel {A : Type} [AddCommMonoid A] (f : Fin 8 → A) (c : Fin 8) :
    ∑ x ∈ Finset.univ.filter (fun x : Fin 8 => c.val ≤ x.val), f x = (∑ x ∈ Finset.univ.filter (fun x : Fin 8 => c.val + 1 ≤ x.val), f x) + f c := by
  have h : (Finset.univ.filter fun x : Fin 8 => c.val ≤ x.val) = insert c (Finset.univ.filter fun x : Fin 8 => c.val + 1 ≤ x.val) := by
    ext x
    simp only [Finset.mem_filter, Finset.mem_univ, true_and, Finset.mem_insert, Fin.ext_iff]
    omega
  rw [h, Finset.sum_insert (by simp), add_comm]
theorem sum_none {A : Type} [AddCommMonoid A] (f : Fin 8 → A) : ∑ x ∈ Finset.univ.filter (fun x : Fin 8 => 8 ≤ x.val), f x = 0 := by
  rw [Finset.filter_false_of_mem (fun x _ => by have := x.isLt; omega), Finset.sum_empty]
theorem sum_all {A : Type} [AddCommMonoid A] (f : Fin 8 → A) : ∑ x ∈ Finset.univ.filter (fun x : Fin 8 => 0 ≤ x.val), f x = ∑ x, f x := by
  rw [Finset.filter_true_of_mem fun x _ => Nat.zero_le _]

theorem owFs_peel (d : Dev nD) (c : Fin 8) : owFs d c.val = owF d c (owFs d (c.val + 1)) := by
  unfold owFs
  rw [sum_peel]
  unfold owF
  simp only [zero_add, add_assoc]
theorem owZs_peel (d : Dev nD) (c : Fin 8) : owZs d c.val = owZs d (c.val + 1) + owZ d c := sum_peel _ _
theorem owFs_8 (d : Dev nD) : owFs d 8 = 0 := sum_none _
theorem owZs_8 (d : Dev nD) : owZs d 8 = 0 := sum_none _

/-- What a device owes at launch: everything, and a unit to each neighbour's barrier. -/
def O₀ (d : Dev nD) : CellTallies nD τ sig Unit :=
  owFs d 0 + owZs d 0 + tallyAt (barCell (zp d)) () 1 + tallyAt (barCell (ccw d)) () 1 + tallyAt (barCell (cw d)) () 1

theorem above_dma {n : ℕ} (d : Dev nD) (k : Fin 10) (c : Fin 8) (N : ℕ) (h : n < klv k c) : Above n (tallyAt (dcell d k c) () N) :=
  Above.at d (.dma (qs k c)) N (by rw [show (((d : Thread nD τ), SemLoc.dma (qs k c)) : GSem nD τ sig) = dcell d k c from rfl, lv_dma]; exact h)
theorem above_owFs {n k : ℕ} (d : Dev nD) (h : n < 3 + k) (hn : n < 100) : Above n (owFs d k) :=
  Above.sum _ _ fun c hc => by
    have hk : k ≤ c.val := (Finset.mem_filter.mp hc).2
    have h4 : n < 3 + c.val := by omega
    exact ((((Above.zero n).add (above_dma _ 9 c _ hn)).add (above_dma _ 8 c _ hn)).add (above_dma _ 5 c _ h4)).add (above_dma _ 4 c _ h4)
theorem above_owZs {n k : ℕ} (d : Dev nD) (h : n < 2) : Above n (owZs d k) := Above.sum _ _ fun c _ => above_dma _ 1 c _ h

/-! ## The cells' records, and what every device knows -/

/-- Every cell's invariant, under the names `K`, and that every cell has reached its round. -/
def records (K : Dev nD × CellIx → ℕ) : sProp 𝕄 :=
  iprop((bigSep Finset.univ fun x : Dev nD × CellIx => cellInv ER (Rd m) (K x) (kcell x))
    ∗ bigSep Finset.univ fun x : Dev nD × CellIx => reached ER (kcell x) 0)
instance records_persistent (K : Dev nD × CellIx → ℕ) : BI.Persistent (records m K) := by unfold records; infer_instance

/-- The records and the levels. -/
def known (K : Dev nD × CellIx → ℕ) : sProp 𝕄 := iprop(records m K ∗ levAts L lv)
instance known_persistent (K : Dev nD × CellIx → ℕ) : BI.Persistent (known m K) := by unfold known; infer_instance

variable (K : Dev nD × CellIx → ℕ)

theorem each_inv (x : Dev nD × CellIx) : (bigSep Finset.univ fun x : Dev nD × CellIx => (cellInv ER (Rd m) (K x) (kcell x) : sProp 𝕄)) ⊢ cellInv ER (Rd m) (K x) (kcell x) :=
  bigSep_elim (Finset.mem_univ x)
theorem each_reached (x : Dev nD × CellIx) : (bigSep Finset.univ fun x : Dev nD × CellIx => (reached ER (kcell x) 0 : sProp 𝕄)) ⊢ reached ER (kcell x) 0 :=
  bigSep_elim (Finset.mem_univ x)
theorem inv_at (x : Dev nD × CellIx) : known m K ⊢ cellInv ER (Rd m) (K x) (kcell x) := by
  unfold known records
  iintro ⟨⟨H, -⟩, -⟩
  iapply (each_inv m K x); iexact H
theorem reached_at (x : Dev nD × CellIx) : known m K ⊢ reached ER (kcell x) 0 := by
  unfold known records
  iintro ⟨⟨-, H⟩, -⟩
  iapply (each_reached (F := F) x); iexact H
theorem lev_at : known m K ⊢ levAts L lv := by
  unfold known
  iintro ⟨-, H⟩
  iexact H

end Cert.AllReduce

end
-- ==== Proof.Steps.lean ====
/-
One rule for each kind of operation the body performs, in the terms of the protocol: a signal to a neighbour's barrier, the
barrier's wait, a transfer to a neighbour, a wait on a transfer cell, a local copy and its wait.
-/
module

public import proofs.«01_k».proof.Proof.Schedule

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

abbrev 𝒱₀ : Variants := Variants.none

/-- Running a piece of device `d`'s body. -/
abbrev Wp (d : Dev nD) (p : Code F) (Q : PUnit → sProp 𝕄) : sProp 𝕄 :=
  wp frame (wpE (defs₀ (F := F)) 𝒱₀ (d : Thread nD τ) none) Set.univ p Q

/-- What device `d` still owes, whatever it has waited for. -/
def Owes (d : Dev nD) (O : CellTallies nD τ sig Unit) : sProp 𝕄 := iprop(∃ W, owes (d : Thread nD τ) O W)

/-- The units a wait on a transfer cell takes. -/
abbrev credAt (d : Dev nD) (k : Fin 10) (c : Fin 8) : sProp 𝕄 := cred (tallyAt (dcell d k c) () (amt k))
/-- The owner's place at the start of a cell's round, the right to pay a cell, and a cell's counter at zero. -/
abbrev posAt (d : Dev nD) (k : Fin 10) (c : Fin 8) : sProp 𝕄 := atPos ER (dcell d k c) 0 ∅ 0
abbrev tok (d : Dev nD) (k : Fin 10) (c : Fin 8) : sProp 𝕄 := dutyTok ER (dcell d k c) 0 0
abbrev zeroAt (d : Dev nD) (k : Fin 10) (c : Fin 8) : sProp 𝕄 := semVal (dcell d k c) 0
abbrev zeroLoc (d : Dev nD) (j : Fin 3) (s : Fin 2) : sProp 𝕄 := semVal (lcell d j s) 0
/-- A local copy under way, which hands `D` when awaited. -/
abbrev Flies (d : Dev nD) (j : Fin 3) (s : Fin 2) (D : sProp 𝕄) : sProp 𝕄 := Flight EC (d : Thread nD τ) (.dma (ls j s)) () NC D

variable (m : (ℓ : Loc nD τ sig) → Buf (Elt F) ℓ) (K : Dev nD × CellIx → ℕ)

/-- A unit sent to a neighbour's barrier with the blocks its duty hands over. -/
theorem wp_greet (d e n : Dev nD) (hn : n = e) (j : Fin 3) (O : CellTallies nD τ sig Unit) {P : Code F} {Q : PUnit → sProp 𝕄} :
    iprop(known m K ∗ barPay m e j ∗ dutyTok ER (barCell e) 0 j ∗ Owes d (O + tallyAt (barCell e) () 1))
      ⊢ iprop((Owes d O -∗ Wp d P Q) -∗ Wp d (.op (.semSignal (Dev.tc n) barS 1) fun _ => P) Q) := by
  subst hn
  unfold Owes
  iintro ⟨#Hk, Hp, Ht, ⟨%W, HO⟩⟩ Hc
  iapply (Rounds.wp_signal 𝒱₀ ER (Rd m) (d : Thread nD τ) none (dst := (n : Thread nD τ)) (κ := K (n, none))
      (d := j) (by rw [duties_bar]; exact Finset.mem_univ _) rfl () O rfl (W := W)) $$ [Hp Ht HO]
  · isplitr; · iapply (inv_at m K (n, none)); iexact Hk
    isplitl [HO]; · iexact HO
    isplitl [Ht]; · iexact Ht
    isplitl [Hp]; · rw [payload_bar]; iexact Hp
    iapply (reached_at m K (n, none)); iexact Hk
  iintro HO
  iapply Hc
  iexists W; iexact HO

/-- The barrier's wait: all three neighbours' blocks. -/
theorem wp_meet (d : Dev nD) (O : CellTallies nD τ sig Unit) (hO : Above 1 O) {P : Code F} {Q : PUnit → sProp 𝕄} :
    iprop(known m K ∗ cred (tallyAt (barCell d) () 3) ∗ atPos ER (barCell d) 0 ∅ 0 ∗ Owes d O)
      ⊢ iprop(((barPay m d 0 ∗ barPay m d 1 ∗ barPay m d 2 ∗ semVal (barCell d) 0 ∗ Owes d O) -∗ Wp d P Q) -∗ Wp d (.op (.semWait barS 3) fun _ => P) Q) := by
  unfold Owes
  iintro ⟨#Hk, Hc, Ha, ⟨%W, HO⟩⟩ Hcont
  iapply (Rounds.wp_wait_rest_token 𝒱₀ ER (Rd m) (d : Thread nD τ) none (κ := K (d, none))
      (wpE_semWait_eq 𝒱₀ (d : Thread nD τ) none Set.univ) (Set.mem_univ _) () (O := O) (W := W) (R := 0) (m := 0) (T := ∅)
      (by rw [Nat.zero_add]; exact (expect_bar m d).symm)) $$ [Hc HO Ha]
  · isplitr; · iapply (inv_at m K (d, none)); iexact Hk
    isplitl [Hc]; · iexact Hc
    isplitl [HO]; · iexact HO
    isplitr
    · iapply (mayWait d (.reg barS) (n := 1) (le_of_eq (lv_bar d)) hO); iapply (lev_at m K); iexact Hk
    iexact Ha
  iintro ⟨HO, Ha, -, Hp⟩
  ihave Hp := (Entails.of_eq (rest_bar m d)) $$ Hp
  icases Hp with ⟨H0, H1, H2⟩
  imod (Rounds.cell_close ER (Rd m) (Set.mem_univ (K (d, none))) (fun h => h) (R := 0 + 1) (duties_later m (barCell d))) $$ [Ha] with Hz
  · isplitr; · iapply (inv_at m K (d, none)); iexact Hk
    iexact Ha
  iapply Hcont
  isplitl [H0]; · iexact H0
  isplitl [H1]; · iexact H1
  isplitl [H2]; · iexact H2
  isplitl [Hz]; · iexact Hz
  iexists _; iexact HO

/-- A transfer to device `e`: the sender's cell will hand the source back, the receiver's the block that has landed. -/
theorem wp_xfer (d e n : Dev nD) (hn : n = e) (ks kr : Fin 10) (c : Fin 8) {sp sp' : Space} {s : Shape} {el : EltTy}
    {src : Memref sig .tc sp s el} {dst : Memref sig (Dev.tc n : Thread nD τ).2.kind sp' s el} {hsc : dst.view.ref.isScScratch = false}
    {hsrc : src.view.WordExact} {hdst : dst.view.WordExact}
    {hsem : DmaTarget.Typed sp (.dma (qs kr c)) (.remote (Dev.tc n : Thread nD τ) dst (.dma (qs ks c)) hsc)}
    {q : PosShare TreeShare} {fs : Buf (Elt F) (src.view.loc (d : Thread nD τ))} {fd : Buf (Elt F) (dst.view.loc (Dev.tc n : Thread nD τ))}
    (hN : dst.view.dmaCredit = amt kr) (hamt : amt ks = amt kr) (Ps Pd : sProp 𝕄)
    (hs : Ps = (src.view.loc (d : Thread nD τ) ↦[src.view.set]{q} fs)) (hd : Pd = (dst.view.loc (Dev.tc n : Thread nD τ) ↦[dst.view.set]{fullShare} fd))
    (hp1 : Ps ⊢ pay m d ks c)
    (hp2 : (dst.view.loc (Dev.tc n : Thread nD τ) ↦[dst.view.set]{fullShare} (dst.view.write (Elt F) fd (src.view.read (Elt F) fs) Finset.univ) : sProp 𝕄) ⊢ pay m e kr c)
    (O : CellTallies nD τ sig Unit) {P : Code F} {Q : PUnit → sProp 𝕄} :
    iprop(known m K ∗ Ps ∗ Pd ∗ tok d ks c ∗ tok e kr c ∗ Owes d (O + tallyAt (dcell e kr c) () (amt kr)))
      ⊢ iprop(((credAt d ks c ∗ Owes d O) -∗ Wp d P Q)
        -∗ Wp d (.op (.enqueueDma src (.remote (Dev.tc n : Thread nD τ) dst (.dma (qs ks c)) hsc) (.dma (qs kr c)) hsrc hdst hsem) fun _ => P) Q) := by
  subst hn hs hd
  unfold Owes
  iintro ⟨#Hk, Hs, Hd, Ht1, Ht2, ⟨%W, HO⟩⟩ Hc
  iapply (Rounds.wp_send_pointsTo 𝒱₀ ER (Rd m) (d : Thread nD τ) none (κ₁ := K (d, some (ks, c))) (κ₂ := K (n, some (kr, c)))
      (r₁ := 0) (r₂ := 0) (d₁ := 0) (d₂ := 0) (fd := fd)
      (by rw [duties_dma]; exact Finset.mem_singleton_self _) (by rw [duties_dma]; exact Finset.mem_singleton_self _)
      () () (amt kr) ((View.amount_dma _ _).trans hN) ((amount_dma m d ks c 0).trans hamt) (amount_dma m n kr c 0) O rfl (W := W)
      (hp1.trans (Entails.of_eq (payload_dma m d ks c 0).symm)) (hp2.trans (Entails.of_eq (payload_dma m n kr c 0).symm))) $$ [Hs Hd Ht1 Ht2 HO]
  · isplitr; · iapply (inv_at m K (d, some (ks, c))); iexact Hk
    isplitr; · iapply (inv_at m K (n, some (kr, c))); iexact Hk
    isplitl [Hs]; · iexact Hs
    isplitl [Hd]; · iexact Hd
    isplitl [HO]; · iexact HO
    isplitl [Ht1]; · iexact Ht1
    isplitr; · iapply (reached_at m K (d, some (ks, c))); iexact Hk
    isplitl [Ht2]; · iexact Ht2
    iapply (reached_at m K (n, some (kr, c))); iexact Hk
  iintro ⟨Hcr, HO⟩
  iapply Hc
  isplitl [Hcr]
  · unfold credAt; rw [hamt]; iexact Hcr
  iexists W; iexact HO

/-- A wait on a transfer cell: what it hands over, and its counter at zero for good. -/
theorem wp_take (d : Dev nD) (k : Fin 10) (c : Fin 8) {sp sp' : Space} {s s' : Shape} {el el' : EltTy}
    {srcw : Memref sig .tc sp' s' el'} {dstw : Memref sig .tc sp s el} {hsrc : srcw.view.WordExact} {hdst : dstw.view.WordExact}
    (hN : dstw.view.dmaCredit = amt k) (n : ℕ) (hl : klv k c ≤ n) (O : CellTallies nD τ sig Unit) (hO : Above n O) {P : Code F} {Q : PUnit → sProp 𝕄} :
    iprop(known m K ∗ credAt d k c ∗ posAt d k c ∗ Owes d O)
      ⊢ iprop(((pay m d k c ∗ zeroAt d k c ∗ Owes d O) -∗ Wp d P Q)
        -∗ Wp d (.op (.waitDma2 (qs k c) srcw dstw hsrc hdst) fun _ => P) Q) := by
  unfold Owes
  iintro ⟨#Hk, Hc, Ha, ⟨%W, HO⟩⟩ Hcont
  iapply (Rounds.wp_wait_rest_token 𝒱₀ ER (Rd m) (d : Thread nD τ) none (κ := K (d, some (k, c)))
      (wpE_waitDma2_eq 𝒱₀ (d : Thread nD τ) none Set.univ) (Set.mem_univ _) () (O := O) (W := W) (R := 0) (m := 0) (T := ∅)
      (by rw [Nat.zero_add, hN]; exact (expect_dma m d k c).symm)) $$ [Hc HO Ha]
  · isplitr; · iapply (inv_at m K (d, some (k, c))); iexact Hk
    isplitl [Hc]; · rw [hN]; iexact Hc
    isplitl [HO]; · iexact HO
    isplitr
    · iapply (mayWait d (.dma (qs k c)) (n := n) (le_of_eq_of_le (lv_dma d k c) hl) hO); iapply (lev_at m K); iexact Hk
    iexact Ha
  iintro ⟨HO, Ha, -, Hp⟩
  ihave Hp := (Entails.of_eq (rest_dma m d k c)) $$ Hp
  imod (Rounds.cell_close ER (Rd m) (Set.mem_univ (K (d, some (k, c)))) (fun h => h) (R := 0 + 1) (duties_later m (dcell d k c))) $$ [Ha] with Hz
  · isplitr; · iapply (inv_at m K (d, some (k, c))); iexact Hk
    iexact Ha
  iapply Hcont
  isplitl [Hp]; · iexact Hp
  isplitl [Hz]; · iexact Hz
  iexists _; iexact HO

/-- A local copy issued. -/
theorem wp_copy (d : Dev nD) (j : Fin 3) (t : Fin 2) {sp sp' : Space} {s : Shape} {el : EltTy}
    {src : Memref sig .tc sp s el} {dst : Memref sig .tc sp' s el} {hsrc : src.view.WordExact} {hdst : dst.view.WordExact}
    {hsem : DmaTarget.Typed (nD := nD) (p := .tc) sp (.dma (ls j t)) (.here dst)} {q : PosShare TreeShare}
    {fs : Buf (Elt F) (src.view.loc (d : Thread nD τ))} {fd : Buf (Elt F) (dst.view.loc (d : Thread nD τ))}
    (hN : dst.view.dmaCredit = NC) (Ps Pd D : sProp 𝕄)
    (hs : Ps = (src.view.loc (d : Thread nD τ) ↦[src.view.set]{q} fs)) (hd : Pd = (dst.view.loc (d : Thread nD τ) ↦[dst.view.set]{fullShare} fd))
    (hD : (dst.view.loc (d : Thread nD τ) ↦[dst.view.set]{fullShare} (dst.view.write (Elt F) fd (src.view.read (Elt F) fs) Finset.univ) : sProp 𝕄) ⊢ D)
    {P : Code F} {Q : PUnit → sProp 𝕄} :
    iprop(Ps ∗ Pd ∗ zeroLoc d j t)
      ⊢ iprop((Flies d j t iprop(D ∗ Ps) -∗ Wp d P Q) -∗ Wp d (.op (.enqueueDma src (.here dst) (.dma (ls j t)) hsrc hdst hsem) fun _ => P) Q) := by
  subst hs hd
  iintro ⟨Hs, Hd, Hz⟩ Hc
  iapply (wp_dmaLocal EC 𝒱₀ (d : Thread nD τ) none (via := .same) () NC ((View.amount_dma _ _).trans hN) NC_pos subset_rfl) $$ [Hs Hd Hz]
  · isplitl [Hs]; · iexact Hs
    isplitl [Hd]; · iexact Hd
    iexact Hz
  iintro Hf
  iapply Hc
  iapply (Flight_mono EC (d : Thread nD τ) (sep_mono_left hD)); iexact Hf

/-- A local copy awaited. -/
theorem wp_copied (d : Dev nD) (j : Fin 3) (t : Fin 2) {sp sp' : Space} {s s' : Shape} {el el' : EltTy}
    {srcw : Memref sig .tc sp' s' el'} {dstw : Memref sig .tc sp s el} {hsrc : srcw.view.WordExact} {hdst : dstw.view.WordExact}
    (hN : dstw.view.dmaCredit = NC) (D : sProp 𝕄) (O : CellTallies nD τ sig Unit) (hO : Above 0 O) {P : Code F} {Q : PUnit → sProp 𝕄} :
    iprop(known m K ∗ Flies d j t D ∗ Owes d O)
      ⊢ iprop(((D ∗ zeroLoc d j t ∗ Owes d O) -∗ Wp d P Q) -∗ Wp d (.op (.waitDma2 (ls j t) srcw dstw hsrc hdst) fun _ => P) Q) := by
  unfold Owes
  iintro ⟨#Hk, Hf, ⟨%W, HO⟩⟩ Hc
  iapply (wp_waitLocalO EC 𝒱₀ (d : Thread nD τ) none () hN (W := W) (O := O)) $$ [Hf HO]
  · isplitl [Hf]; · iexact Hf
    isplitl [HO]; · iexact HO
    iapply (mayWait d (.dma (ls j t)) (n := 0) (le_of_eq (lv_loc d j t)) hO); iapply (lev_at m K); iexact Hk
  iintro ⟨HD, Hz, HO⟩
  iapply Hc
  isplitl [HD]; · iexact HD
  isplitl [Hz]; · iexact Hz
  iexists _; iexact HO

end Cert.AllReduce

end
-- ==== Proof.Phases.lean ====
/-
Each phase of the body, from what it needs to what it leaves: a chunk's block sent along z, its summands fetched, added, the
sum spread, the neighbours' sums relayed; a slot freed; and the last waits.
-/
module

public import proofs.«01_k».proof.Proof.Steps

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CellIx → ℕ)

/-! ## Elements held through the views of the transfers -/

section Views

variable (d e : Dev nD) (c : Fin 8) (s : Fin 2)

theorem xSend_pt (f : S1x16384x2048.Idx → F .f32) : xPt d (xc (pos d) c (side d + 1)) f
    = ((xSend d c).view.loc (d : Thread nD τ) ↦[(xSend d c).view.set]{fullShare} f) :=
  congrArg (fun S : Finset S1x16384x2048.Idx => (xL d ↦[S]{fullShare} f : sProp 𝕄)) (xSend_set d c).symm
theorem xKeep_pt (f : S1x16384x2048.Idx → F .f32) : xPt d (xc (pos d) c (side d)) f
    = ((xKeep d c).view.loc (d : Thread nD τ) ↦[(xKeep d c).view.set]{fullShare} f) :=
  congrArg (fun S : Finset S1x16384x2048.Idx => (xL d ↦[S]{fullShare} f : sProp 𝕄)) (xKeep_set d c).symm
theorem zRow_pt (f : S4096x1024.Idx → F .f32) : rPt d (zc c) f
    = ((zRow c).view.loc (d : Thread nD τ) ↦[(zRow c).view.set]{fullShare} f) :=
  congrArg (fun S : Finset S4096x1024.Idx => (rL d ↦[S]{fullShare} f : sProp 𝕄)) (zRow_set c).symm
theorem oOwn_pt (f : S16384x1024.Idx → F .f32) : oPt e (ck (pos d) c) f
    = ((oOwn d c).view.loc (e : Thread nD τ) ↦[(oOwn d c).view.set]{fullShare} f) :=
  congrArg (fun S : Finset S16384x1024.Idx => (oL e ↦[S]{fullShare} f : sProp 𝕄)) (oOwn_set d c).symm
theorem oHalf_pt (j : Fin 3) (h : Fin 2) (f : S16384x1024.Idx → F .f32) : oPt e (pc (pos d + j.succ) c h) f
    = ((oHalf d j c h).view.loc (e : Thread nD τ) ↦[(oHalf d j c h).view.set]{fullShare} f) :=
  congrArg (fun S : Finset S16384x1024.Idx => (oL e ↦[S]{fullShare} f : sProp 𝕄)) (oHalf_set d c j h).symm
theorem aSlot_pt (f : S2x512x1024.Idx → F .f32) : aPt d (slotS s) f
    = ((slotV aM s).view.loc (d : Thread nD τ) ↦[(slotV aM s).view.set]{fullShare} f) :=
  congrArg (fun S : Finset S2x512x1024.Idx => (aL d ↦[S]{fullShare} f : sProp 𝕄)) (aSlot_set s).symm
theorem bSlot_pt (f : S2x512x1024.Idx → F .f32) : bPt d (slotS s) f
    = ((slotV bM s).view.loc (d : Thread nD τ) ↦[(slotV bM s).view.set]{fullShare} f) :=
  congrArg (fun S : Finset S2x512x1024.Idx => (bL d ↦[S]{fullShare} f : sProp 𝕄)) (bSlot_set s).symm
theorem sSlot_pt (q : PosShare TreeShare) (f : S2x512x1024.Idx → F .f32) : sPt d q (slotS s) f
    = ((slotV sM s).view.loc (d : Thread nD τ) ↦[(slotV sM s).view.set]{q} f) :=
  congrArg (fun S : Finset S2x512x1024.Idx => (sL d ↦[S]{q} f : sProp 𝕄)) (sSlot_set s).symm

/-- Elements of a whole buffer are themselves. -/
theorem whole_setOn (b : Ref sig .tc) (S : Finset b.ty.shape.Idx) : (View.whole b : View sig .tc _ _ _).setOn S = S := by
  ext i; simp [View.setOn]

/-- A slot of sums in its three shares. -/
theorem slot_shares (S : Finset S2x512x1024.Idx) (f : S2x512x1024.Idx → F .f32) :
    (sPt d fullShare S f : sProp 𝕄) ⊣⊢ iprop((sPt d shOwn S f ∗ sPt d shCcw S f) ∗ sPt d shCw S f) := by
  have h1 := pointsTo_share (Val := Elt F) (Ix := Unit) (Name := ℕ) (U := UU) (Lvl := ℕ) (I := S) (f := f) (ℓ := sL d) (PosShare.mem_left_op_right fullShare)
  have h2 := pointsTo_share (Val := Elt F) (Ix := Unit) (Name := ℕ) (U := UU) (Lvl := ℕ) (I := S) (f := f) (ℓ := sL d) (PosShare.mem_left_op_right fullShare.left)
  exact ⟨h1.1.trans (sep_mono_left h2.1), (sep_mono_left h2.2).trans h1.2⟩

/-- A chunk of the result in its halves. -/
theorem halves (q : Fin 4) (f : S16384x1024.Idx → F .f32) :
    (oPt e (ck q c) f : sProp 𝕄) ⊣⊢ iprop(oPt e (pc q c 0) f ∗ oPt e (pc q c 1) f) := by
  rw [ck_eq]
  exact pointsTo_union (pc_disjoint (by simp))

end Views

/-! ## Sizes of the transfers -/

theorem amt_01 : amt 0 = amt 1 := rfl
theorem amt_chunk : ∀ k : Fin 10, k.val < 6 → amt k = NC := fun k h => if_pos h
theorem amt_half : ∀ k : Fin 10, ¬ k.val < 6 → amt k = NH := fun k h => if_neg h

/-! ## What landings hand over, told from the sender -/

theorem turn1 : ∀ q : Fin 4, q + 1 + 3 = q := by decide
theorem turn2 : ∀ q : Fin 4, q + 3 + 1 = q := by decide
theorem turn3 : ∀ q : Fin 4, q + 1 + 2 = q + 3 := by decide
theorem turn4 : ∀ q : Fin 4, q + 3 + 2 = q + 1 := by decide

section Pays

variable (d : Dev nD) (c : Fin 8)

theorem pay_cw : pay m (cw d) 4 c = oPt (cw d) (ck (pos d) c) (oF m (side d)) := by
  show oPt (cw d) (ck (pos (cw d) + 3) c) (oF m (side (cw d))) = _; rw [pos_cw, side_cw, turn1]
theorem pay_ccw : pay m (ccw d) 5 c = oPt (ccw d) (ck (pos d) c) (oF m (side d)) := by
  show oPt (ccw d) (ck (pos (ccw d) + 1) c) (oF m (side (ccw d))) = _; rw [pos_ccw, side_ccw, turn2]
theorem pay_cw_half : pay m (cw d) 8 c = oPt (cw d) (pc (pos d + 3) c 0) (oF m (side d)) := by
  show oPt (cw d) (pc (pos (cw d) + 2) c 0) (oF m (side (cw d))) = _; rw [pos_cw, side_cw, turn3]
theorem pay_ccw_half : pay m (ccw d) 9 c = oPt (ccw d) (pc (pos d + 1) c 1) (oF m (side d)) := by
  show oPt (ccw d) (pc (pos (ccw d) + 2) c 1) (oF m (side (ccw d))) = _; rw [pos_ccw, side_ccw, turn4]

end Pays

/-! ## Bundles -/

/-- A slot free for use: its parts of the three buffers at any contents, its copies' counters at zero. -/
def Slot (d : Dev nD) (s : Fin 2) : sProp 𝕄 :=
  iprop((∃ f, aPt d (slotS s) f) ∗ (∃ f, bPt d (slotS s) f) ∗ (∃ f, sPt d fullShare (slotS s) f) ∗ zeroLoc d 0 s ∗ zeroLoc d 1 s ∗ zeroLoc d 2 s)
/-- What the work on chunk `c` needs. -/
def ChunkIn (d : Dev nD) (c : Fin 8) : sProp 𝕄 :=
  iprop((credAt d 1 c ∗ credAt d 4 c ∗ credAt d 5 c) ∗ (posAt d 1 c ∗ posAt d 2 c ∗ posAt d 3 c ∗ posAt d 4 c ∗ posAt d 5 c)
    ∗ (tok d 2 c ∗ tok d 3 c ∗ tok d 6 c ∗ tok d 7 c) ∗ (tok (cw d) 4 c ∗ tok (cw d) 8 c) ∗ (tok (ccw d) 5 c ∗ tok (ccw d) 9 c)
    ∗ xPt d (xc (pos d) c (side d)) (xv m d) ∗ oPt d (ck (pos d) c) (o0 m d)
    ∗ (oPt (cw d) (ck (pos d) c) (o0 m (cw d)) ∗ oPt (cw d) (pc (pos d + 3) c 0) (o0 m (cw d)))
    ∗ (oPt (ccw d) (ck (pos d) c) (o0 m (ccw d)) ∗ oPt (ccw d) (pc (pos d + 1) c 1) (o0 m (ccw d))))
/-- A sum on its way out of its slot. -/
def Going (d : Dev nD) (c : Fin 8) : sProp 𝕄 :=
  iprop(Flies d 2 (slot c) iprop(oPt d (ck (pos d) c) (oF m (side d)) ∗ sPt d shOwn (slotS (slot c)) (sF m d c)) ∗ credAt d 2 c ∗ credAt d 3 c)
/-- Chunk `c`'s slot while its sum is on its way. -/
def Busy (d : Dev nD) (c : Fin 8) : sProp 𝕄 :=
  iprop((∃ f, aPt d (slotS (slot c)) f) ∗ (∃ f, bPt d (slotS (slot c)) f) ∗ zeroLoc d 0 (slot c) ∗ zeroLoc d 1 (slot c)
    ∗ Going m d c ∗ posAt d 2 c ∗ posAt d 3 c)
/-- What the work on chunk `c` leaves beside its slot. -/
def ChunkOut (d : Dev nD) (c : Fin 8) : sProp 𝕄 :=
  iprop((zeroAt d 1 c ∗ zeroAt d 4 c ∗ zeroAt d 5 c) ∗ xPt d (xc (pos d) c (side d)) (xv m d)
    ∗ oPt d (pc (pos d + 3) c 1) (oF m (side d)) ∗ oPt d (pc (pos d + 1) c 0) (oF m (side d)) ∗ credAt d 6 c ∗ credAt d 7 c)
/-- What freeing chunk `c`'s slot leaves beside the slot. -/
def Done (d : Dev nD) (c : Fin 8) : sProp 𝕄 :=
  iprop((zeroAt d 2 c ∗ zeroAt d 3 c) ∗ oPt d (ck (pos d) c) (oF m (side d)))

/-! ## The phases -/

section Rules

variable (d : Dev nD) (c : Fin 8)

/-- Chunk `c` sent along z. -/
theorem wp_zSend {P : Code F} {Q : PUnit → sProp 𝕄} (O : CellTallies nD τ sig Unit) :
    iprop(known m K ∗ (tok d 0 c ∗ tok (zp d) 1 c ∗ xPt d (xc (pos d) c (side d + 1)) (xv m d) ∗ rPt (zp d) (zc c) (r0 m (zp d))) ∗ Owes d (O + owZ d c))
      ⊢ iprop(((credAt d 0 c ∗ Owes d O) -∗ Wp d P Q) -∗ Wp d (zSend d c P) Q) := by
  unfold zSend
  iintro ⟨#Hk, ⟨Ht0, Ht1, Hx, Hr⟩, HO⟩ Hc
  iapply (wp_xfer m K d (zp d) (devZ d) (devZ_eq d) 0 1 c (src := xSend d c) (dst := zRow c) rfl amt_01
      (xPt d (xc (pos d) c (side d + 1)) (xv m d)) (rPt (zp d) (zc c) (r0 m (zp d)))
      (xSend_pt d c _) (by rw [devZ_eq]; exact zRow_pt (zp d) c _) (Entails.refl _)
      (by rw [devZ_eq]; exact Entails.of_eq ((pointsTo_congr (z_lands m d c _)).trans (zRow_pt (zp d) c _).symm)) O) $$ [Ht0 Ht1 Hx Hr HO]
  · isplitr; · iexact Hk
    isplitl [Hx]; · iexact Hx
    isplitl [Hr]; · iexact Hr
    isplitl [Ht0]; · iexact Ht0
    isplitl [Ht1]; · iexact Ht1
    iexact HO
  iexact Hc

/-- The summands of chunk `c` brought into its slot. -/
theorem wp_fetch {P : Code F} {Q : PUnit → sProp 𝕄} (O : CellTallies nD τ sig Unit) (hO : Above 2 O) :
    iprop(known m K ∗ (credAt d 1 c ∗ posAt d 1 c ∗ xPt d (xc (pos d) c (side d)) (xv m d) ∗ (∃ f, aPt d (slotS (slot c)) f) ∗ (∃ f, bPt d (slotS (slot c)) f)
        ∗ zeroLoc d 0 (slot c) ∗ zeroLoc d 1 (slot c)) ∗ Owes d O)
      ⊢ iprop((((zeroAt d 1 c ∗ xPt d (xc (pos d) c (side d)) (xv m d) ∗ aPt d (slotS (slot c)) (aF m d c) ∗ bPt d (slotS (slot c)) (bF m d c)
        ∗ zeroLoc d 0 (slot c) ∗ zeroLoc d 1 (slot c)) ∗ Owes d O) -∗ Wp d P Q) -∗ Wp d (fetch d c P) Q) := by
  have h0 : Above 0 O := fun g hg => ⟨(hO g hg).1, by have := (hO g hg).2; omega⟩
  unfold fetch
  iintro ⟨#Hk, ⟨Hcr, Hpos, Hx, ⟨%fa, Ha⟩, ⟨%fb, Hb⟩, Hz0, Hz1⟩, HO⟩ Hc
  iapply (wp_take m K d 1 c (srcw := xSend d c) (dstw := zRow c) (hsrc := ((View.wordExact_bits rfl).reshape _ _)) (hdst := (View.wordExact_bits rfl)) rfl 2 (le_refl 2) O hO) $$ [Hcr Hpos HO]
  · isplitr; · iexact Hk
    isplitl [Hcr]; · iexact Hcr
    isplitl [Hpos] <;> iassumption
  rw [pay_1]
  iintro ⟨Hr, Hq1, HO⟩
  iapply (wp_copy d 0 (slot c) (src := xKeep d c) (dst := slotV aM (slot c)) rfl (xPt d (xc (pos d) c (side d)) (xv m d)) (aPt d (slotS (slot c)) fa)
      (aPt d (slotS (slot c)) (aF m d c)) (xKeep_pt d c _) (aSlot_pt d (slot c) _)
      (Entails.of_eq ((pointsTo_congr (a_lands m d c _)).trans (aSlot_pt d (slot c) _).symm))) $$ [Hx Ha Hz0]
  · isplitl [Hx]; · iexact Hx
    isplitl [Ha] <;> iassumption
  iintro Hfa
  iapply (wp_copy d 1 (slot c) (src := zRow c) (dst := slotV bM (slot c)) rfl (rPt d (zc c) (zF m d)) (bPt d (slotS (slot c)) fb)
      (bPt d (slotS (slot c)) (bF m d c)) (zRow_pt d c _) (bSlot_pt d (slot c) _)
      (Entails.of_eq ((pointsTo_congr (b_lands m d c _)).trans (bSlot_pt d (slot c) _).symm))) $$ [Hr Hb Hz1]
  · isplitl [Hr]; · iexact Hr
    isplitl [Hb] <;> iassumption
  iintro Hfb
  iapply (wp_copied m K d 0 (slot c) (srcw := xKeep d c) (dstw := slotV aM (slot c)) (hsrc := ((View.wordExact_bits rfl).reshape _ _)) (hdst := ((View.wordExact_bits rfl).reshape _ _)) rfl _ O h0) $$ [Hfa HO]
  · isplitr; · iexact Hk
    isplitl [Hfa] <;> iassumption
  iintro ⟨⟨Ha, Hx⟩, Hz0, HO⟩
  iapply (wp_copied m K d 1 (slot c) (srcw := zRow c) (dstw := slotV bM (slot c)) (hsrc := (View.wordExact_bits rfl)) (hdst := ((View.wordExact_bits rfl).reshape _ _)) rfl _ O h0) $$ [Hfb HO]
  · isplitr; · iexact Hk
    isplitl [Hfb] <;> iassumption
  iintro ⟨⟨Hb, -⟩, Hz1, HO⟩
  iapply Hc
  isplitr [HO]
  · isplitl [Hq1]; · iexact Hq1
    isplitl [Hx]; · iexact Hx
    isplitl [Ha]; · iexact Ha
    isplitl [Hb]; · iexact Hb
    isplitl [Hz0] <;> iassumption
  iexact HO

/-- The summands of chunk `c` added up in its slot. -/
theorem wp_addUp {P : Code F} {Q : PUnit → sProp 𝕄} :
    iprop(aPt d (slotS (slot c)) (aF m d c) ∗ bPt d (slotS (slot c)) (bF m d c) ∗ (∃ f, sPt d fullShare (slotS (slot c)) f))
      ⊢ iprop(((aPt d (slotS (slot c)) (aF m d c) ∗ bPt d (slotS (slot c)) (bF m d c) ∗ sPt d fullShare (slotS (slot c)) (sF m d c)) -∗ Wp d P Q)
        -∗ Wp d (addUp c P) Q) := by
  unfold addUp
  iintro ⟨Ha, Hb, ⟨%f, Hs⟩⟩ Hc
  iapply (wp_load 𝒱₀ (d : Thread nD τ) none Set.univ (m := aM) (S := slotS (slot c)) (by rw [← slotR_set]; exact (whole_setOn _ _).subset)) $$ Ha
  iintro Ha
  iapply (wp_load 𝒱₀ (d : Thread nD τ) none Set.univ (m := bM) (S := slotS (slot c)) (by rw [← slotR_set]; exact (whole_setOn _ _).subset)) $$ Hb
  iintro Hb
  iapply (wp_load 𝒱₀ (d : Thread nD τ) none Set.univ (m := sM) (S := slotS (slot c)) (by rw [← slotR_set]; exact (whole_setOn _ _).subset)) $$ Hs
  iintro Hs
  iapply (wp_store 𝒱₀ (d : Thread nD τ) none Set.univ (m := sM) (r := slotR (slot c)) (Mk := Finset.univ) (S := slotS (slot c))
    (by rw [← slotR_set]; exact (View.set_slice_whole _ _).subset)) $$ Hs
  iintro Hs
  iapply Hc
  isplitl [Ha]; · iexact Ha
  isplitl [Hb]; · iexact Hb
  ihave Hs := (Entails.of_eq (pointsTo_congr (Ix := Unit) (Name := ℕ) (U := UU) (Lvl := ℕ) (q := fullShare) (ℓ := sL d) (I := slotS (slot c)) (g := sF m d c)
    (fun i hi => s_stored m d c f i (by rw [View.set_slice_whole, slotR_set]; exact hi)))) $$ Hs
  iexact Hs

/-- The sum of chunk `c` sent out of its slot. -/
theorem wp_spread {P : Code F} {Q : PUnit → sProp 𝕄} (O : CellTallies nD τ sig Unit) :
    iprop(known m K ∗ (sPt d fullShare (slotS (slot c)) (sF m d c) ∗ zeroLoc d 2 (slot c) ∗ tok d 2 c ∗ tok d 3 c ∗ tok (cw d) 4 c ∗ tok (ccw d) 5 c
        ∗ oPt d (ck (pos d) c) (o0 m d) ∗ oPt (cw d) (ck (pos d) c) (o0 m (cw d)) ∗ oPt (ccw d) (ck (pos d) c) (o0 m (ccw d)))
        ∗ Owes d (O + tallyAt (dcell (ccw d) 5 c) () (amt 5) + tallyAt (dcell (cw d) 4 c) () (amt 4)))
      ⊢ iprop(((Going m d c ∗ Owes d O) -∗ Wp d P Q) -∗ Wp d (spread d c P) Q) := by
  unfold spread Going
  iintro ⟨#Hk, ⟨Hs, Hz, Ht2, Ht3, Ht4, Ht5, Ho, Hocw, Hoccw⟩, HO⟩ Hc
  ihave Hs := (slot_shares d (slotS (slot c)) (sF m d c)).1 $$ Hs
  icases Hs with ⟨⟨Hs0, Hs1⟩, Hs2⟩
  iapply (wp_copy d 2 (slot c) (src := slotV sM (slot c)) (dst := oOwn d c) rfl (sPt d shOwn (slotS (slot c)) (sF m d c)) (oPt d (ck (pos d) c) (o0 m d))
      (oPt d (ck (pos d) c) (oF m (side d))) (sSlot_pt d (slot c) _ _) (oOwn_pt d d c _)
      (Entails.of_eq ((pointsTo_congr (o_lands m d c _)).trans (oOwn_pt d d c _).symm))) $$ [Hs0 Ho Hz]
  · isplitl [Hs0]; · iexact Hs0
    isplitl [Ho] <;> iassumption
  iintro Hf
  iapply (wp_xfer m K d (cw d) (devCw d) (devCw_eq d) 2 4 c (src := slotV sM (slot c)) (dst := oOwn d c) rfl rfl
      (sPt d shCw (slotS (slot c)) (sF m d c)) (oPt (cw d) (ck (pos d) c) (o0 m (cw d)))
      (sSlot_pt d (slot c) _ _) (by rw [devCw_eq]; exact oOwn_pt d (cw d) c _) (Entails.refl _)
      (by rw [devCw_eq, pay_cw]; exact Entails.of_eq ((pointsTo_congr (o_lands m d c _)).trans (oOwn_pt d (cw d) c _).symm))) $$ [Hs2 Ht2 Ht4 Hocw HO]
  · isplitr; · iexact Hk
    isplitl [Hs2]; · iexact Hs2
    isplitl [Hocw]; · iexact Hocw
    isplitl [Ht2]; · iexact Ht2
    isplitl [Ht4]; · iexact Ht4
    iexact HO
  iintro ⟨Hc2, HO⟩
  iapply (wp_xfer m K d (ccw d) (devCcw d) (devCcw_eq d) 3 5 c (src := slotV sM (slot c)) (dst := oOwn d c) rfl rfl
      (sPt d shCcw (slotS (slot c)) (sF m d c)) (oPt (ccw d) (ck (pos d) c) (o0 m (ccw d)))
      (sSlot_pt d (slot c) _ _) (by rw [devCcw_eq]; exact oOwn_pt d (ccw d) c _) (Entails.refl _)
      (by rw [devCcw_eq, pay_ccw]; exact Entails.of_eq ((pointsTo_congr (o_lands m d c _)).trans (oOwn_pt d (ccw d) c _).symm))) $$ [Hs1 Ht3 Ht5 Hoccw HO]
  · isplitr; · iexact Hk
    isplitl [Hs1]; · iexact Hs1
    isplitl [Hoccw]; · iexact Hoccw
    isplitl [Ht3]; · iexact Ht3
    isplitl [Ht5]; · iexact Ht5
    iexact HO
  iintro ⟨Hc3, HO⟩
  iapply Hc
  isplitr [HO]
  · isplitl [Hf]; · iexact Hf
    isplitl [Hc2] <;> iassumption
  iexact HO

/-- The neighbours' sums of chunk `c` taken in and a half of each passed on. -/
theorem wp_relay {P : Code F} {Q : PUnit → sProp 𝕄} (O : CellTallies nD τ sig Unit) (hO : Above (3 + c.val) O) :
    iprop(known m K ∗ (credAt d 4 c ∗ credAt d 5 c ∗ posAt d 4 c ∗ posAt d 5 c ∗ tok d 6 c ∗ tok d 7 c ∗ tok (cw d) 8 c ∗ tok (ccw d) 9 c
        ∗ oPt (cw d) (pc (pos d + 3) c 0) (o0 m (cw d)) ∗ oPt (ccw d) (pc (pos d + 1) c 1) (o0 m (ccw d)))
        ∗ Owes d (O + tallyAt (dcell (ccw d) 9 c) () (amt 9) + tallyAt (dcell (cw d) 8 c) () (amt 8)))
      ⊢ iprop((((zeroAt d 4 c ∗ zeroAt d 5 c ∗ oPt d (pc (pos d + 3) c 1) (oF m (side d)) ∗ oPt d (pc (pos d + 1) c 0) (oF m (side d)) ∗ credAt d 6 c ∗ credAt d 7 c)
        ∗ Owes d O) -∗ Wp d P Q) -∗ Wp d (relay d c P) Q) := by
  have hlt : 3 + c.val < 100 := by omega
  unfold relay
  iintro ⟨#Hk, ⟨Hc4, Hc5, Hp4, Hp5, Ht6, Ht7, Ht8, Ht9, Hocw, Hoccw⟩, HO⟩ Hc
  iapply (wp_take m K d 4 c (srcw := slotV sM (slot c)) (dstw := oNbr d 1 c) (hsrc := ((View.wordExact_bits rfl).reshape _ _)) (hdst := (View.wordExact_bits rfl)) rfl (3 + c.val) (le_refl _) _ ((hO.add (above_dma _ 9 c _ hlt)).add (above_dma _ 8 c _ hlt))) $$ [Hc4 Hp4 HO]
  · isplitr; · iexact Hk
    isplitl [Hc4]; · iexact Hc4
    isplitl [Hp4] <;> iassumption
  rw [pay_4]
  iintro ⟨Ho, Hz4, HO⟩
  ihave Ho := (halves d c (pos d + 3) (oF m (side d))).1 $$ Ho
  icases Ho with ⟨Ho30, Ho31⟩
  iapply (wp_xfer m K d (cw d) (devCw d) (devCw_eq d) 6 8 c (src := oHalf d 2 c 0) (dst := oHalf d 2 c 0) rfl rfl
      (oPt d (pc (pos d + 3) c 0) (oF m (side d))) (oPt (cw d) (pc (pos d + 3) c 0) (o0 m (cw d)))
      (oHalf_pt d d c 2 0 _) (by rw [devCw_eq]; exact oHalf_pt d (cw d) c 2 0 _) (Entails.refl _)
      (by rw [devCw_eq, pay_cw_half]; exact Entails.of_eq ((pointsTo_congr (h_lands m d c 2 0 _ _)).trans (oHalf_pt d (cw d) c 2 0 _).symm)))
    $$ [Ho30 Hocw Ht6 Ht8 HO]
  · isplitr; · iexact Hk
    isplitl [Ho30]; · iexact Ho30
    isplitl [Hocw]; · iexact Hocw
    isplitl [Ht6]; · iexact Ht6
    isplitl [Ht8]; · iexact Ht8
    iexact HO
  iintro ⟨Hc6, HO⟩
  iapply (wp_take m K d 5 c (srcw := slotV sM (slot c)) (dstw := oNbr d 0 c) (hsrc := ((View.wordExact_bits rfl).reshape _ _)) (hdst := (View.wordExact_bits rfl)) rfl (3 + c.val) (le_refl _) _ (hO.add (above_dma _ 9 c _ hlt))) $$ [Hc5 Hp5 HO]
  · isplitr; · iexact Hk
    isplitl [Hc5]; · iexact Hc5
    isplitl [Hp5] <;> iassumption
  rw [pay_5]
  iintro ⟨Ho, Hz5, HO⟩
  ihave Ho := (halves d c (pos d + 1) (oF m (side d))).1 $$ Ho
  icases Ho with ⟨Ho10, Ho11⟩
  iapply (wp_xfer m K d (ccw d) (devCcw d) (devCcw_eq d) 7 9 c (src := oHalf d 0 c 1) (dst := oHalf d 0 c 1) rfl rfl
      (oPt d (pc (pos d + 1) c 1) (oF m (side d))) (oPt (ccw d) (pc (pos d + 1) c 1) (o0 m (ccw d)))
      (oHalf_pt d d c 0 1 _) (by rw [devCcw_eq]; exact oHalf_pt d (ccw d) c 0 1 _) (Entails.refl _)
      (by rw [devCcw_eq, pay_ccw_half]; exact Entails.of_eq ((pointsTo_congr (h_lands m d c 0 1 _ _)).trans (oHalf_pt d (ccw d) c 0 1 _).symm)))
    $$ [Ho11 Hoccw Ht7 Ht9 HO]
  · isplitr; · iexact Hk
    isplitl [Ho11]; · iexact Ho11
    isplitl [Hoccw]; · iexact Hoccw
    isplitl [Ht7]; · iexact Ht7
    isplitl [Ht9]; · iexact Ht9
    iexact HO
  iintro ⟨Hc7, HO⟩
  iapply Hc
  isplitr [HO]
  · isplitl [Hz4]; · iexact Hz4
    isplitl [Hz5]; · iexact Hz5
    isplitl [Ho31]; · iexact Ho31
    isplitl [Ho10]; · iexact Ho10
    isplitl [Hc6] <;> iassumption
  iexact HO

/-- The work on chunk `c`, its slot free. -/
theorem wp_chunk {P : Code F} {Q : PUnit → sProp 𝕄} :
    iprop(known m K ∗ (Slot d (slot c) ∗ ChunkIn m d c) ∗ Owes d (owFs d c.val))
      ⊢ iprop((((Busy m d c ∗ ChunkOut m d c) ∗ Owes d (owFs d (c.val + 1))) -∗ Wp d P Q) -∗ Wp d (chunk d c P) Q) := by
  have h2 : Above 2 (owFs d c.val) := above_owFs d (by omega) (by omega)
  rw [owFs_peel] at h2
  rw [owFs_peel]
  have h3 : Above (3 + c.val) (owFs d (c.val + 1)) := above_owFs d (by omega) (by omega)
  unfold chunk Slot ChunkIn Busy ChunkOut
  iintro ⟨#Hk, ⟨⟨Ha, Hb, Hs, Hz0, Hz1, Hz2⟩, ⟨Hc1, Hc4, Hc5⟩, ⟨Hp1, Hp2, Hp3, Hp4, Hp5⟩, ⟨Ht2, Ht3, Ht6, Ht7⟩, ⟨Ht4, Ht8⟩, ⟨Ht5, Ht9⟩, Hx, Ho, ⟨Ho1, Ho2⟩, Ho3, Ho4⟩, HO⟩ Hc
  iapply (wp_fetch m K d c _ h2) $$ [Hc1 Hp1 Hx Ha Hb Hz0 Hz1 HO]
  · isplitr; · iexact Hk
    isplitr [HO]
    · isplitl [Hc1]; · iexact Hc1
      isplitl [Hp1]; · iexact Hp1
      isplitl [Hx]; · iexact Hx
      isplitl [Ha]; · iexact Ha
      isplitl [Hb]; · iexact Hb
      isplitl [Hz0] <;> iassumption
    iexact HO
  iintro ⟨⟨Hq1, Hx, Ha, Hb, Hz0, Hz1⟩, HO⟩
  iapply (wp_addUp m d c) $$ [Ha Hb Hs]
  · isplitl [Ha]; · iexact Ha
    isplitl [Hb] <;> iassumption
  iintro ⟨Ha, Hb, Hs⟩
  unfold owF
  iapply (wp_spread m K d c) $$ [Hs Hz2 Ht2 Ht3 Ht4 Ht5 Ho Ho1 Ho3 HO]
  · isplitr; · iexact Hk
    isplitr [HO]
    · isplitl [Hs]; · iexact Hs
      isplitl [Hz2]; · iexact Hz2
      isplitl [Ht2]; · iexact Ht2
      isplitl [Ht3]; · iexact Ht3
      isplitl [Ht4]; · iexact Ht4
      isplitl [Ht5]; · iexact Ht5
      isplitl [Ho]; · iexact Ho
      isplitl [Ho1] <;> iassumption
    iexact HO
  iintro ⟨Hg, HO⟩
  iapply (wp_relay m K d c _ h3) $$ [Hc4 Hc5 Hp4 Hp5 Ht6 Ht7 Ht8 Ht9 Ho2 Ho4 HO]
  · isplitr; · iexact Hk
    isplitr [HO]
    · isplitl [Hc4]; · iexact Hc4
      isplitl [Hc5]; · iexact Hc5
      isplitl [Hp4]; · iexact Hp4
      isplitl [Hp5]; · iexact Hp5
      isplitl [Ht6]; · iexact Ht6
      isplitl [Ht7]; · iexact Ht7
      isplitl [Ht8]; · iexact Ht8
      isplitl [Ht9]; · iexact Ht9
      isplitl [Ho2] <;> iassumption
    iexact HO
  iintro ⟨⟨Hq4, Hq5, Ho5, Ho6, Hc6, Hc7⟩, HO⟩
  iapply Hc
  isplitr [HO]
  · isplitr [Hq1 Hq4 Hq5 Hx Ho5 Ho6 Hc6 Hc7]
    · isplitl [Ha]; · iexists _; iexact Ha
      isplitl [Hb]; · iexists _; iexact Hb
      isplitl [Hz0]; · iexact Hz0
      isplitl [Hz1]; · iexact Hz1
      isplitl [Hg]; · iexact Hg
      isplitl [Hp2] <;> iassumption
    isplitl [Hq1 Hq4 Hq5]
    · isplitl [Hq1]; · iexact Hq1
      isplitl [Hq4] <;> iassumption
    isplitl [Hx]; · iexact Hx
    isplitl [Ho5]; · iexact Ho5
    isplitl [Ho6]; · iexact Ho6
    isplitl [Hc6] <;> iassumption
  iexact HO

/-- Chunk `c`'s slot freed. -/
theorem wp_reuse {P : Code F} {Q : PUnit → sProp 𝕄} (O : CellTallies nD τ sig Unit) (hO : Above 0 O) :
    iprop(known m K ∗ Busy m d c ∗ Owes d O)
      ⊢ iprop((((Slot d (slot c) ∗ Done m d c) ∗ Owes d O) -∗ Wp d P Q) -∗ Wp d (reuse d c P) Q) := by
  unfold reuse Busy Going Slot Done
  iintro ⟨#Hk, ⟨Ha, Hb, Hz0, Hz1, ⟨Hf, Hc2, Hc3⟩, Hp2, Hp3⟩, HO⟩ Hc
  iapply (wp_copied m K d 2 (slot c) (srcw := slotV sM (slot c)) (dstw := oOwn d c) (hsrc := ((View.wordExact_bits rfl).reshape _ _)) (hdst := (View.wordExact_bits rfl)) rfl _ O hO) $$ [Hf HO]
  · isplitr; · iexact Hk
    isplitl [Hf] <;> iassumption
  iintro ⟨⟨Ho, Hs0⟩, Hz2, HO⟩
  iapply (wp_take m K d 2 c (srcw := oOwn d c) (dstw := slotV sM (slot c)) (hsrc := (View.wordExact_bits rfl)) (hdst := ((View.wordExact_bits rfl).reshape _ _)) rfl 0 (le_refl _) O hO) $$ [Hc2 Hp2 HO]
  · isplitr; · iexact Hk
    isplitl [Hc2]; · iexact Hc2
    isplitl [Hp2] <;> iassumption
  rw [pay_2]
  iintro ⟨Hs2, Hq2, HO⟩
  iapply (wp_take m K d 3 c (srcw := oOwn d c) (dstw := slotV sM (slot c)) (hsrc := (View.wordExact_bits rfl)) (hdst := ((View.wordExact_bits rfl).reshape _ _)) rfl 0 (le_refl _) O hO) $$ [Hc3 Hp3 HO]
  · isplitr; · iexact Hk
    isplitl [Hc3]; · iexact Hc3
    isplitl [Hp3] <;> iassumption
  rw [pay_3]
  iintro ⟨Hs1, Hq3, HO⟩
  iapply Hc
  isplitr [HO]
  · isplitr [Hq2 Hq3 Ho]
    · isplitl [Ha]; · iexact Ha
      isplitl [Hb]; · iexact Hb
      isplitl [Hs0 Hs1 Hs2]
      · iexists (sF m d c)
        iapply (slot_shares d (slotS (slot c)) (sF m d c)).2
        isplitr [Hs2]
        · isplitl [Hs0]; · iexact Hs0
          iexact Hs1
        iexact Hs2
      isplitl [Hz0]; · iexact Hz0
      isplitl [Hz1] <;> iassumption
    isplitr [Ho]
    · isplitl [Hq2] <;> iassumption
    iexact Ho
  iexact HO

/-- The work on chunk `c` in the slot of chunk `b`. -/
theorem wp_again {P : Code F} {Q : PUnit → sProp 𝕄} (b : Fin 8) (hb : slot b = slot c) :
    iprop(known m K ∗ (Busy m d b ∗ ChunkIn m d c) ∗ Owes d (owFs d c.val))
      ⊢ iprop((((Busy m d c ∗ Done m d b ∗ ChunkOut m d c) ∗ Owes d (owFs d (c.val + 1))) -∗ Wp d P Q) -∗ Wp d (chunkAgain d b c P) Q) := by
  have h0 : Above 0 (owFs d c.val) := above_owFs d (by omega) (by omega)
  unfold chunkAgain
  iintro ⟨#Hk, ⟨Hb, Hi⟩, HO⟩ Hc
  iapply (wp_reuse m K d b _ h0) $$ [Hb HO]
  · isplitr; · iexact Hk
    isplitl [Hb] <;> iassumption
  rw [hb]
  iintro ⟨⟨Hs, Hd⟩, HO⟩
  iapply (wp_chunk m K d c) $$ [Hs Hi HO]
  · isplitr; · iexact Hk
    isplitr [HO]
    · isplitl [Hs] <;> iassumption
    iexact HO
  iintro ⟨⟨Hb, Ho⟩, HO⟩
  iapply Hc
  isplitr [HO]
  · isplitl [Hb]; · iexact Hb
    isplitl [Hd] <;> iassumption
  iexact HO

/-- The transfer of chunk `c` along z has left. -/
theorem wp_zSent {P : Code F} {Q : PUnit → sProp 𝕄} :
    iprop(known m K ∗ (credAt d 0 c ∗ posAt d 0 c) ∗ Owes d 0)
      ⊢ iprop((((pay m d 0 c ∗ zeroAt d 0 c) ∗ Owes d 0) -∗ Wp d P Q) -∗ Wp d (zSent d c P) Q) := by
  unfold zSent
  iintro ⟨#Hk, ⟨Hc0, Hp0⟩, HO⟩ Hc
  iapply (wp_take m K d 0 c (srcw := zRow c) (dstw := xSend d c) (hsrc := (View.wordExact_bits rfl)) (hdst := ((View.wordExact_bits rfl).reshape _ _)) rfl 0 (le_refl _) 0 (Above.zero 0)) $$ [Hc0 Hp0 HO]
  · isplitr; · iexact Hk
    isplitl [Hc0]; · iexact Hc0
    isplitl [Hp0] <;> iassumption
  iintro ⟨Hx, Hz, HO⟩
  iapply Hc
  isplitr [HO]
  · isplitl [Hx] <;> iassumption
  iexact HO

/-- The two halves of chunk `c` passed on have left. -/
theorem wp_relaySent {P : Code F} {Q : PUnit → sProp 𝕄} :
    iprop(known m K ∗ ((credAt d 6 c ∗ credAt d 7 c) ∗ posAt d 6 c ∗ posAt d 7 c) ∗ Owes d 0)
      ⊢ iprop((((pay m d 6 c ∗ pay m d 7 c ∗ zeroAt d 6 c ∗ zeroAt d 7 c) ∗ Owes d 0) -∗ Wp d P Q) -∗ Wp d (relaySent d c P) Q) := by
  unfold relaySent
  iintro ⟨#Hk, ⟨⟨Hc0, Hc1⟩, Hp0, Hp1⟩, HO⟩ Hc
  iapply (wp_take m K d 6 c (srcw := oHalf d 2 c 0) (dstw := oHalf d 2 c 0) (hsrc := (View.wordExact_bits rfl)) (hdst := (View.wordExact_bits rfl)) rfl 0 (le_refl _) 0 (Above.zero 0)) $$ [Hc0 Hp0 HO]
  · isplitr; · iexact Hk
    isplitl [Hc0]; · iexact Hc0
    isplitl [Hp0] <;> iassumption
  iintro ⟨H0, Hz0, HO⟩
  iapply (wp_take m K d 7 c (srcw := oHalf d 0 c 1) (dstw := oHalf d 0 c 1) (hsrc := (View.wordExact_bits rfl)) (hdst := (View.wordExact_bits rfl)) rfl 0 (le_refl _) 0 (Above.zero 0)) $$ [Hc1 Hp1 HO]
  · isplitr; · iexact Hk
    isplitl [Hc1]; · iexact Hc1
    isplitl [Hp1] <;> iassumption
  iintro ⟨H1, Hz1, HO⟩
  iapply Hc
  isplitr [HO]
  · isplitl [H0]; · iexact H0
    isplitl [H1]; · iexact H1
    isplitl [Hz0] <;> iassumption
  iexact HO

/-- The two halves of chunk `c` of the opposite quarter have come in. -/
theorem wp_diagIn {P : Code F} {Q : PUnit → sProp 𝕄} :
    iprop(known m K ∗ ((credAt d 8 c ∗ credAt d 9 c) ∗ posAt d 8 c ∗ posAt d 9 c) ∗ Owes d 0)
      ⊢ iprop((((pay m d 8 c ∗ pay m d 9 c ∗ zeroAt d 8 c ∗ zeroAt d 9 c) ∗ Owes d 0) -∗ Wp d P Q) -∗ Wp d (diagIn d c P) Q) := by
  unfold diagIn
  iintro ⟨#Hk, ⟨⟨Hc0, Hc1⟩, Hp0, Hp1⟩, HO⟩ Hc
  iapply (wp_take m K d 8 c (srcw := oHalf d 1 c 0) (dstw := oHalf d 1 c 0) (hsrc := (View.wordExact_bits rfl)) (hdst := (View.wordExact_bits rfl)) rfl 100 (le_refl _) 0 (Above.zero _)) $$ [Hc0 Hp0 HO]
  · isplitr; · iexact Hk
    isplitl [Hc0]; · iexact Hc0
    isplitl [Hp0] <;> iassumption
  iintro ⟨H0, Hz0, HO⟩
  iapply (wp_take m K d 9 c (srcw := oHalf d 1 c 1) (dstw := oHalf d 1 c 1) (hsrc := (View.wordExact_bits rfl)) (hdst := (View.wordExact_bits rfl)) rfl 100 (le_refl _) 0 (Above.zero _)) $$ [Hc1 Hp1 HO]
  · isplitr; · iexact Hk
    isplitl [Hc1]; · iexact Hc1
    isplitl [Hp1] <;> iassumption
  iintro ⟨H1, Hz1, HO⟩
  iapply Hc
  isplitr [HO]
  · isplitl [H0]; · iexact H0
    isplitl [H1]; · iexact H1
    isplitl [Hz0] <;> iassumption
  iexact HO

end Rules

end Cert.AllReduce

end
-- ==== Proof.Tiling.lean ====
/-
The buffers cut into the blocks the transfers move, chunk by chunk, and put together again.
-/
module

public import proofs.«01_k».proof.Proof.Phases

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## The result -/

theorem turn_none : ∀ q : Fin 4, q + 0 = q := by decide
theorem turn_back : ∀ p q : Fin 4, q + (p - q) = p := by decide
theorem turn_cancel : ∀ q a b : Fin 4, q + a = q + b → a = b := by decide

/-- Chunk `c` of all four quarters of the result, counted from the device's own. -/
def band (q : Fin 4) (c : Fin 8) : Finset S16384x1024.Idx := (Finset.univ : Finset (Fin 4 × Fin 2)).biUnion fun t => pc (q + t.1) c t.2

theorem mem_band (q : Fin 4) (c : Fin 8) (i : S16384x1024.Idx) : i ∈ band q c ↔ ∃ t : Fin 4 × Fin 2, i ∈ pc (q + t.1) c t.2 := by
  unfold band; simp

theorem band_disjoint (q : Fin 4) {c c' : Fin 8} (h : c ≠ c') : Disjoint (band q c) (band q c') := by
  rw [Finset.disjoint_left]
  intro i hi hi'
  obtain ⟨t, ht⟩ := (mem_band q c i).mp hi
  obtain ⟨t', ht'⟩ := (mem_band q c' i).mp hi'
  exact Finset.disjoint_left.mp (pc_disjoint (fun e => h (congrArg (fun x : Fin 4 × Fin 8 × Fin 2 => x.2.1) e))) ht ht'

theorem band_univ (q : Fin 4) : (Finset.univ : Finset (Fin 8)).biUnion (band q) = Finset.univ := by
  refine Finset.eq_univ_iff_forall.mpr fun i => Finset.mem_biUnion.mpr ?_
  have hi : i ∈ (Finset.univ : Finset (Fin 4 × Fin 8 × Fin 2)).biUnion (fun t => pc t.1 t.2.1 t.2.2) := by rw [pc_univ]; exact Finset.mem_univ i
  obtain ⟨t, -, ht⟩ := Finset.mem_biUnion.mp hi
  exact ⟨t.2.1, Finset.mem_univ _, (mem_band q t.2.1 i).mpr ⟨(t.1 - q, t.2.2), by show i ∈ pc (q + (t.1 - q)) t.2.1 t.2.2; rw [turn_back]; exact ht⟩⟩

/-- The blocks of chunk `c` of device `d`'s result, by who writes them: the device itself, the next device, the previous one. -/
def oPieces (d : Dev nD) (c : Fin 8) (f : S16384x1024.Idx → F .f32) : sProp 𝕄 :=
  iprop(oPt d (ck (pos d) c) f ∗ (oPt d (ck (pos d + 1) c) f ∗ oPt d (pc (pos d + 2) c 1) f) ∗ (oPt d (ck (pos d + 3) c) f ∗ oPt d (pc (pos d + 2) c 0) f))

theorem band_cut (d : Dev nD) (c : Fin 8) (f : S16384x1024.Idx → F .f32) : (oPt d (band (pos d) c) f : sProp 𝕄) ⊣⊢ oPieces d c f := by
  have h : (oPt d (band (pos d) c) f : sProp 𝕄) = iprop(oPt d (pc (pos d + 0) c 0) f ∗ oPt d (pc (pos d + 0) c 1) f ∗ oPt d (pc (pos d + 1) c 0) f ∗ oPt d (pc (pos d + 1) c 1) f
      ∗ oPt d (pc (pos d + 2) c 0) f ∗ oPt d (pc (pos d + 2) c 1) f ∗ oPt d (pc (pos d + 3) c 0) f ∗ oPt d (pc (pos d + 3) c 1) f) :=
    (pointsTo_biUnion _ _ fun t _ t' _ hne => pc_disjoint fun e => hne (Prod.ext
      (turn_cancel _ _ _ (congrArg (fun x : Fin 4 × Fin 8 × Fin 2 => x.1) e)) (congrArg (fun x : Fin 4 × Fin 8 × Fin 2 => x.2.2) e))).trans
    (bigSep_univ_eq_bigSepL ([(0, 0), (0, 1), (1, 0), (1, 1), (2, 0), (2, 1), (3, 0), (3, 1)] : List (Fin 4 × Fin 2)) (by decide) (by decide) _)
  rw [h, turn_none]
  unfold oPieces
  constructor
  · iintro ⟨H00, H01, H10, H11, H20, H21, H30, H31⟩
    isplitl [H00 H01]
    · iapply (halves d c (pos d) f).2; isplitl [H00] <;> iassumption
    isplitl [H10 H11 H21]
    · isplitr [H21]
      · iapply (halves d c (pos d + 1) f).2; isplitl [H10] <;> iassumption
      iexact H21
    isplitr [H20]
    · iapply (halves d c (pos d + 3) f).2; isplitl [H30] <;> iassumption
    iexact H20
  · iintro ⟨H0, ⟨H1, H21⟩, H3, H20⟩
    ihave H0 := (halves d c (pos d) f).1 $$ H0
    icases H0 with ⟨H00, H01⟩
    ihave H1 := (halves d c (pos d + 1) f).1 $$ H1
    icases H1 with ⟨H10, H11⟩
    ihave H3 := (halves d c (pos d + 3) f).1 $$ H3
    icases H3 with ⟨H30, H31⟩
    isplitl [H00]; · iexact H00
    isplitl [H01]; · iexact H01
    isplitl [H10]; · iexact H10
    isplitl [H11]; · iexact H11
    isplitl [H20]; · iexact H20
    isplitl [H21]; · iexact H21
    isplitl [H30] <;> iassumption

/-- The result is its blocks. -/
theorem o_cut (d : Dev nD) (f : S16384x1024.Idx → F .f32) :
    (oPt d Finset.univ f : sProp 𝕄) ⊣⊢ bigSep Finset.univ fun c : Fin 8 => oPieces d c f := by
  have h : (oPt d Finset.univ f : sProp 𝕄) = bigSep Finset.univ fun c : Fin 8 => oPt d (band (pos d) c) f := by
    rw [← band_univ (pos d)]
    exact pointsTo_biUnion _ _ fun c _ c' _ hne => band_disjoint (pos d) hne
  rw [h]
  exact ⟨bigSep_mono fun c _ => (band_cut d c f).1, bigSep_mono fun c _ => (band_cut d c f).2⟩

/-! ## The receive buffer -/

theorem r_cut (d : Dev nD) (f : S4096x1024.Idx → F .f32) : (rPt d Finset.univ f : sProp 𝕄) = bigSep Finset.univ fun c : Fin 8 => rPt d (zc c) f := by
  rw [← zc_univ]
  exact pointsTo_biUnion _ _ fun c _ c' _ hne => zc_disjoint hne

/-! ## The argument -/

/-- The two blocks of the argument that chunk `c` concerns: the one sent along z and the one kept. -/
def xPieces (d : Dev nD) (c : Fin 8) (f : S1x16384x2048.Idx → F .f32) : sProp 𝕄 :=
  iprop(xPt d (xc (pos d) c (side d + 1)) f ∗ xPt d (xc (pos d) c (side d)) f)
/-- The part of the argument that the device uses. -/
def xUsed (d : Dev nD) : Finset S1x16384x2048.Idx := (Finset.univ : Finset (Fin 8)).biUnion fun c => xc (pos d) c (side d + 1) ∪ xc (pos d) c (side d)

theorem side_ne : ∀ z : Fin 2, z + 1 ≠ z := by decide

/-- The argument is its blocks and what the device does not use. -/
theorem x_cut (d : Dev nD) (f : S1x16384x2048.Idx → F .f32) :
    (xPt d Finset.univ f : sProp 𝕄) ⊣⊢ iprop((bigSep Finset.univ fun c : Fin 8 => xPieces d c f) ∗ xPt d (Finset.univ \ xUsed d) f) := by
  have h1 : (xPt d (xUsed d) f : sProp 𝕄) = bigSep Finset.univ fun c : Fin 8 => xPt d (xc (pos d) c (side d + 1) ∪ xc (pos d) c (side d)) f :=
    pointsTo_biUnion _ _ fun c _ c' _ hne => by
      have hd : ∀ z z' : Fin 2, Disjoint (xc (pos d) c z) (xc (pos d) c' z') := fun z z' => xc_disjoint fun e => hne (congrArg (fun x : Fin 8 × Fin 2 => x.1) e)
      exact Finset.disjoint_union_left.mpr ⟨Finset.disjoint_union_right.mpr ⟨hd _ _, hd _ _⟩, Finset.disjoint_union_right.mpr ⟨hd _ _, hd _ _⟩⟩
  have h2 : ∀ c : Fin 8, (xPt d (xc (pos d) c (side d + 1) ∪ xc (pos d) c (side d)) f : sProp 𝕄) ⊣⊢ xPieces d c f := fun c =>
    pointsTo_union (xc_disjoint fun e => side_ne _ (congrArg (fun x : Fin 8 × Fin 2 => x.2) e))
  have h3 := pointsTo_split_subset (Val := Elt F) (Ix := Unit) (Name := ℕ) (U := UU) (Lvl := ℕ) (ℓ := xL d) (q := fullShare) (f := f) (Finset.subset_univ (xUsed d))
  rw [show ((xL d ↦[xUsed d]{fullShare} f : sProp 𝕄)) = _ from h1] at h3
  exact ⟨h3.1.trans (sep_mono_left (bigSep_mono fun c _ => (h2 c).1)), (sep_mono_left (bigSep_mono fun c _ => (h2 c).2)).trans h3.2⟩

/-! ## The slots -/

theorem slots_disjoint : Disjoint (slotS 0) (slotS 1) := slotS_disjoint (by decide)

/-- A two-slot buffer, held by `pt`, is its two slots, each at contents of its own. -/
theorem two_slots (pt : Finset S2x512x1024.Idx → (S2x512x1024.Idx → F .f32) → sProp 𝕄)
    (hcut : ∀ f, pt (slotS 0 ∪ slotS 1) f ⊢ iprop(pt (slotS 0) f ∗ pt (slotS 1) f))
    (hjoin : ∀ f g, iprop(pt (slotS 0) f ∗ pt (slotS 1) g) ⊢ pt (slotS 0 ∪ slotS 1) ((slotS 1).piecewise g f)) :
    (iprop(∃ f, pt Finset.univ f) : sProp 𝕄) ⊣⊢ iprop((∃ f, pt (slotS 0) f) ∗ ∃ f, pt (slotS 1) f) := by
  rw [← slotS_univ]
  constructor
  · iintro ⟨%f, H⟩
    ihave H := (hcut f) $$ H
    icases H with ⟨H0, H1⟩
    isplitl [H0]
    · iexists f; iexact H0
    iexists f; iexact H1
  · iintro ⟨⟨%f, H0⟩, ⟨%g, H1⟩⟩
    iexists _
    iapply (hjoin f g)
    isplitl [H0] <;> iassumption

theorem a_slots (d : Dev nD) : (iprop(∃ f, aPt d Finset.univ f) : sProp 𝕄) ⊣⊢ iprop((∃ f, aPt d (slotS 0) f) ∗ ∃ f, aPt d (slotS 1) f) :=
  two_slots (fun S f => aPt d S f) (fun f => (pointsTo_union slots_disjoint).1) fun f g => pointsTo_join slots_disjoint
theorem b_slots (d : Dev nD) : (iprop(∃ f, bPt d Finset.univ f) : sProp 𝕄) ⊣⊢ iprop((∃ f, bPt d (slotS 0) f) ∗ ∃ f, bPt d (slotS 1) f) :=
  two_slots (fun S f => bPt d S f) (fun f => (pointsTo_union slots_disjoint).1) fun f g => pointsTo_join slots_disjoint
theorem s_slots (d : Dev nD) : (iprop(∃ f, sPt d fullShare Finset.univ f) : sProp 𝕄) ⊣⊢ iprop((∃ f, sPt d fullShare (slotS 0) f) ∗ ∃ f, sPt d fullShare (slotS 1) f) :=
  two_slots (fun S f => sPt d fullShare S f) (fun f => (pointsTo_union slots_disjoint).1) fun f g => pointsTo_join slots_disjoint

end Cert.AllReduce

end
-- ==== Proof.Body.lean ====
/-
The whole body on one device: the handshake, every chunk sent along z, the eight chunks worked through in two slots, and the
last waits. It starts from the device's share of the launch and ends with the result complete and every counter at zero.
-/
module

public import proofs.«01_k».proof.Proof.Tiling

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CellIx → ℕ)

/-! ## A phase for every chunk -/

/-- The chunks from the `n`-th on. -/
def since (n : ℕ) : Finset (Fin 8) := Finset.univ.filter fun c => n ≤ c.val

theorem since_0 : since 0 = Finset.univ := by decide
theorem since_8 : since 8 = ∅ := by decide
theorem since_peel (c : Fin 8) : since c.val = insert c (since (c.val + 1)) ∧ c ∉ since (c.val + 1) := by revert c; decide

/-- One chunk's assertion set before those of other chunks. -/
theorem bigSep_first {s : Finset (Fin 8)} {c : Fin 8} (h : c ∉ s) {A : Fin 8 → sProp 𝕄} : bigSep (insert c s) A = iprop(A c ∗ bigSep s A) := bigSep_insert h

/-- A phase run for the chunks from the `n`-th on, given its rule for one chunk with an invariant `J` that counts chunks. -/
theorem wp_since (d : Dev nD) (Ph : Fin 8 → Code F → Code F) (A B : Fin 8 → sProp 𝕄) (J : ℕ → sProp 𝕄) (n₀ : ℕ) (Q : PUnit → sProp 𝕄)
    (h : ∀ (c : Fin 8) (P : Code F), n₀ ≤ c.val → iprop(known m K ∗ A c ∗ J c.val) ⊢ iprop(((B c ∗ J (c.val + 1)) -∗ Wp d P Q) -∗ Wp d (Ph c P) Q))
    (P : Code F) : ∀ k n : ℕ, n + k = 8 → n₀ ≤ n →
      iprop(known m K ∗ bigSep (since n) A ∗ J n) ⊢ iprop(((bigSep (since n) B ∗ J 8) -∗ Wp d P Q) -∗ Wp d (((List.finRange 8).drop n).foldr Ph P) Q) := by
  intro k
  induction k with
  | zero =>
    intro n hn _
    have : n = 8 := by omega
    subst this
    rw [since_8, bigSep_empty, bigSep_empty, show ((List.finRange 8).drop 8) = [] from rfl]
    iintro ⟨-, -, HJ⟩ Hc
    iapply Hc
    isplitr; · iempintro
    iexact HJ
  | succ k ih =>
    intro n hn h0
    have hlt : n < 8 := by omega
    have hl : (List.finRange 8).drop n = (⟨n, hlt⟩ : Fin 8) :: (List.finRange 8).drop (n + 1) := by
      rw [List.drop_eq_getElem_cons (by rw [List.length_finRange]; exact hlt)]
      simp
    have hs := since_peel ⟨n, hlt⟩
    have hs1 : since n = insert ⟨n, hlt⟩ (since (n + 1)) := hs.1
    rw [hl, hs1, bigSep_first hs.2, bigSep_first hs.2, List.foldr_cons]
    iintro ⟨#Hk, ⟨HA, HAs⟩, HJ⟩ Hc
    iapply (h ⟨n, hlt⟩ _ h0) $$ [HA HJ]
    · isplitr; · iexact Hk
      isplitl [HA] <;> iassumption
    iintro ⟨HB, HJ⟩
    iapply (ih (n + 1) (by omega) (by omega)) $$ [HAs HJ]
    · isplitr; · iexact Hk
      isplitl [HAs] <;> iassumption
    iintro ⟨HBs, HJ⟩
    iapply Hc
    isplitr [HJ]
    · isplitl [HB] <;> iassumption
    iexact HJ

/-- A phase run for every chunk. -/
theorem wp_each (d : Dev nD) (Ph : Fin 8 → Code F → Code F) (A B : Fin 8 → sProp 𝕄) (J : ℕ → sProp 𝕄) (Q : PUnit → sProp 𝕄)
    (h : ∀ (c : Fin 8) (P : Code F), iprop(known m K ∗ A c ∗ J c.val) ⊢ iprop(((B c ∗ J (c.val + 1)) -∗ Wp d P Q) -∗ Wp d (Ph c P) Q))
    (P : Code F) :
    iprop(known m K ∗ bigSep Finset.univ A ∗ J 0) ⊢ iprop(((bigSep Finset.univ B ∗ J 8) -∗ Wp d P Q) -∗ Wp d (each Ph P) Q) := by
  have := wp_since m K d Ph A B J 0 Q (fun c P _ => h c P) P 8 0 rfl (le_refl 0)
  rwa [since_0] at this

/-! ## The eight chunks -/

/-- A number as a chunk. -/
def at8 (n : ℕ) : Fin 8 := ⟨n % 8, Nat.mod_lt _ (by decide)⟩

theorem slot_at8 (c : Fin 8) : slot (at8 (c.val + 6)) = slot c := Fin.ext (by show (c.val + 6) % 8 % 2 = c.val % 2; omega)

/-- The chunk two before, in the same slot. -/
def before : Fin 8 ↪ Fin 8 := ⟨fun c => at8 (c.val + 6), fun a b h => by revert a b; decide⟩

theorem chunks_eq (d : Dev nD) (P : Code F) : chunks d P
    = (chunk d 0 <| chunk d 1 <| ((List.finRange 8).drop 2).foldr (fun c => chunkAgain d (at8 (c.val + 6)) c) <| reuse d 6 <| reuse d 7 P) := rfl

/-- The chunks worked through: all but the two last freed on the way. -/
theorem wp_chunks (d : Dev nD) (P : Code F) (Q : PUnit → sProp 𝕄) :
    iprop(known m K ∗ (Slot d 0 ∗ Slot d 1 ∗ bigSep Finset.univ (ChunkIn m d)) ∗ Owes d (owFs d 0))
      ⊢ iprop((((Slot d 0 ∗ Slot d 1 ∗ bigSep Finset.univ (Done m d) ∗ bigSep Finset.univ (ChunkOut m d)) ∗ Owes d 0) -∗ Wp d P Q) -∗ Wp d (chunks d P) Q) := by
  have hin : bigSep Finset.univ (ChunkIn m d) = iprop(ChunkIn m d 0 ∗ ChunkIn m d 1 ∗ bigSep (since 2) (ChunkIn m d)) := by
    rw [show (Finset.univ : Finset (Fin 8)) = insert 0 (insert 1 (since 2)) by decide, bigSep_first (by decide), bigSep_first (by decide)]
  have hout : bigSep Finset.univ (ChunkOut m d) = iprop(ChunkOut m d 0 ∗ ChunkOut m d 1 ∗ bigSep (since 2) (ChunkOut m d)) := by
    rw [show (Finset.univ : Finset (Fin 8)) = insert 0 (insert 1 (since 2)) by decide, bigSep_first (by decide), bigSep_first (by decide)]
  have hdone : bigSep Finset.univ (Done m d) = iprop(Done m d 6 ∗ Done m d 7 ∗ bigSep (since 2) fun c => Done m d (at8 (c.val + 6))) := by
    have e : (bigSep (since 2) fun c => Done m d (at8 (c.val + 6)))
        = bigSep ((since 2).map before) (Done m d) := (bigSep_map before (Φ := Done m d)).symm
    rw [e, show (Finset.univ : Finset (Fin 8)) = insert 6 (insert 7 ((since 2).map before)) by decide,
      bigSep_first (by decide), bigSep_first (by decide)]
  rw [hin, hout, hdone, chunks_eq]
  iintro ⟨#Hk, ⟨Hs0, Hs1, Hi0, Hi1, Hi⟩, HO⟩ Hc
  iapply (wp_chunk m K d 0) $$ [Hs0 Hi0 HO]
  · isplitr; · iexact Hk
    isplitr [HO]
    · isplitl [Hs0]; · iexact Hs0
      iexact Hi0
    iexact HO
  iintro ⟨⟨Hb0, Ho0⟩, HO⟩
  iapply (wp_chunk m K d 1) $$ [Hs1 Hi1 HO]
  · isplitr; · iexact Hk
    isplitr [HO]
    · isplitl [Hs1]; · iexact Hs1
      iexact Hi1
    iexact HO
  iintro ⟨⟨Hb1, Ho1⟩, HO⟩
  iapply (wp_since m K d (fun c => chunkAgain d (at8 (c.val + 6)) c) (ChunkIn m d) (fun c => iprop(Done m d (at8 (c.val + 6)) ∗ ChunkOut m d c))
      (fun n => iprop((Busy m d (at8 (n + 6)) ∗ Busy m d (at8 (n + 7))) ∗ Owes d (owFs d n))) 2 Q (fun c P _ => by
        iintro ⟨#Hk, Hi, ⟨Hb, Hb'⟩, HO⟩ Hc
        iapply (wp_again m K d c (at8 (c.val + 6)) (slot_at8 c)) $$ [Hb Hi HO]
        · isplitr; · iexact Hk
          isplitr [HO]
          · isplitl [Hb] <;> iassumption
          iexact HO
        iintro ⟨⟨Hb, Hd, Ho⟩, HO⟩
        iapply Hc
        rw [show at8 (c.val + 1 + 6) = at8 (c.val + 7) from rfl, show at8 (c.val + 1 + 7) = c from Fin.ext (by show (c.val + 1 + 7) % 8 = c.val; omega)]
        isplitr [Hb Hb' HO]
        · isplitl [Hd] <;> iassumption
        isplitr [HO]
        · isplitl [Hb'] <;> iassumption
        iexact HO) _ 6 2 rfl (le_refl 2)) $$ [Hb0 Hb1 Hi HO]
  · isplitr; · iexact Hk
    isplitl [Hi]; · iexact Hi
    isplitr [HO]
    · isplitl [Hb0]; · iexact Hb0
      iexact Hb1
    iexact HO
  rw [bigSep_sep', owFs_8]
  iintro ⟨⟨Hd, Ho⟩, ⟨Hb6, Hb7⟩, HO⟩
  iapply (wp_reuse m K d 6 _ (Above.zero 0)) $$ [Hb6 HO]
  · isplitr; · iexact Hk
    isplitl [Hb6]; · iexact Hb6
    iexact HO
  iintro ⟨⟨Hs0, Hd6⟩, HO⟩
  iapply (wp_reuse m K d 7 _ (Above.zero 0)) $$ [Hb7 HO]
  · isplitr; · iexact Hk
    isplitl [Hb7]; · iexact Hb7
    iexact HO
  iintro ⟨⟨Hs1, Hd7⟩, HO⟩
  iapply Hc
  isplitr [HO]
  · isplitl [Hs0]; · iexact Hs0
    isplitl [Hs1]; · iexact Hs1
    isplitl [Hd6 Hd7 Hd]
    · isplitl [Hd6]; · iexact Hd6
      isplitl [Hd7] <;> iassumption
    isplitl [Ho0]; · iexact Ho0
    isplitl [Ho1] <;> iassumption
  iexact HO

/-! ## The handshake -/

theorem turn5 : ∀ q : Fin 4, q + 1 + 1 = q + 2 := by decide
theorem turn6 : ∀ q : Fin 4, q + 3 + 3 = q + 2 := by decide

/-- What device `d` hands its neighbours: the blocks of its own buffers that they write. -/
theorem barPay_cw (d : Dev nD) : barPay m (cw d) 0
    = bigSep Finset.univ fun c : Fin 8 => iprop(oPt d (ck (pos d + 1) c) (o0 m d) ∗ oPt d (pc (pos d + 2) c 1) (o0 m d)) := by
  rw [barPay_0, ccw_cw, pos_cw, turn5]
theorem barPay_ccw (d : Dev nD) : barPay m (ccw d) 1
    = bigSep Finset.univ fun c : Fin 8 => iprop(oPt d (ck (pos d + 3) c) (o0 m d) ∗ oPt d (pc (pos d + 2) c 0) (o0 m d)) := by
  rw [barPay_1, cw_ccw, pos_ccw, turn6]
theorem barPay_zp (d : Dev nD) : barPay m (zp d) 2 = rPt d Finset.univ (r0 m d) := by
  rw [barPay_2, zp_zp, r_cut]

/-- What the handshake takes beside the blocks: its cell's credit and place, and the right to pay the neighbours' cells. -/
def HandIn (d : Dev nD) : sProp 𝕄 :=
  iprop(cred (tallyAt (barCell d) () 3) ∗ atPos ER (barCell d) 0 ∅ 0
    ∗ dutyTok ER (barCell (cw d)) 0 0 ∗ dutyTok ER (barCell (ccw d)) 0 1 ∗ dutyTok ER (barCell (zp d)) 0 2)

theorem wp_handshake (d : Dev nD) (P : Code F) (Q : PUnit → sProp 𝕄) :
    iprop(known m K ∗ (HandIn d ∗ barPay m (cw d) 0 ∗ barPay m (ccw d) 1 ∗ barPay m (zp d) 2) ∗ Owes d (O₀ d))
      ⊢ iprop((((barPay m d 0 ∗ barPay m d 1 ∗ barPay m d 2 ∗ semVal (barCell d) 0) ∗ Owes d (owFs d 0 + owZs d 0)) -∗ Wp d P Q) -∗ Wp d (handshake d P) Q) := by
  unfold handshake HandIn O₀
  iintro ⟨#Hk, ⟨⟨Hcr, Ha, Ht0, Ht1, Ht2⟩, H0, H1, H2⟩, HO⟩ Hc
  iapply (wp_greet m K d (cw d) (devCw d) (devCw_eq d) 0) $$ [H0 Ht0 HO]
  · isplitr; · iexact Hk
    isplitl [H0]; · iexact H0
    isplitl [Ht0] <;> iassumption
  iintro HO
  iapply (wp_greet m K d (ccw d) (devCcw d) (devCcw_eq d) 1) $$ [H1 Ht1 HO]
  · isplitr; · iexact Hk
    isplitl [H1]; · iexact H1
    isplitl [Ht1] <;> iassumption
  iintro HO
  iapply (wp_greet m K d (zp d) (devZ d) (devZ_eq d) 2) $$ [H2 Ht2 HO]
  · isplitr; · iexact Hk
    isplitl [H2]; · iexact H2
    isplitl [Ht2] <;> iassumption
  iintro HO
  iapply (wp_meet m K d _ ((above_owFs d (by omega) (by omega)).add (above_owZs d (by omega)))) $$ [Hcr Ha HO]
  · isplitr; · iexact Hk
    isplitl [Hcr]; · iexact Hcr
    isplitl [Ha] <;> iassumption
  iintro ⟨H0, H1, H2, Hz, HO⟩
  iapply Hc
  isplitr [HO]
  · isplitl [H0]; · iexact H0
    isplitl [H1]; · iexact H1
    isplitl [H2] <;> iassumption
  iexact HO

/-! ## The body -/

/-- What the launch gives a device for chunk `c`, its buffers aside. -/
def Deal (d : Dev nD) (c : Fin 8) : sProp 𝕄 :=
  iprop((posAt d 0 c ∗ posAt d 1 c ∗ posAt d 2 c ∗ posAt d 3 c ∗ posAt d 4 c ∗ posAt d 5 c ∗ posAt d 6 c ∗ posAt d 7 c ∗ posAt d 8 c ∗ posAt d 9 c)
    ∗ (credAt d 1 c ∗ credAt d 4 c ∗ credAt d 5 c ∗ credAt d 8 c ∗ credAt d 9 c)
    ∗ (tok d 0 c ∗ tok d 2 c ∗ tok d 3 c ∗ tok d 6 c ∗ tok d 7 c) ∗ tok (zp d) 1 c ∗ (tok (cw d) 4 c ∗ tok (cw d) 8 c) ∗ (tok (ccw d) 5 c ∗ tok (ccw d) 9 c))
/-- The counters of chunk `c`'s cells at zero. -/
def Zeros (d : Dev nD) (c : Fin 8) : sProp 𝕄 :=
  iprop(zeroAt d 0 c ∗ zeroAt d 1 c ∗ zeroAt d 2 c ∗ zeroAt d 3 c ∗ zeroAt d 4 c ∗ zeroAt d 5 c ∗ zeroAt d 6 c ∗ zeroAt d 7 c ∗ zeroAt d 8 c ∗ zeroAt d 9 c)
/-- The three slot buffers at any contents, the local copies' counters at zero. -/
def Scratch (d : Dev nD) : sProp 𝕄 :=
  iprop(((∃ f, aPt d Finset.univ f) ∗ (∃ f, bPt d Finset.univ f) ∗ (∃ f, sPt d fullShare Finset.univ f))
    ∗ (zeroLoc d 0 0 ∗ zeroLoc d 0 1) ∗ (zeroLoc d 1 0 ∗ zeroLoc d 1 1) ∗ (zeroLoc d 2 0 ∗ zeroLoc d 2 1))

/-- What a device starts from. -/
def Start (d : Dev nD) : sProp 𝕄 :=
  iprop(HandIn d ∗ (bigSep Finset.univ fun c : Fin 8 => Deal d c) ∗ xPt d Finset.univ (xv m d) ∗ oPt d Finset.univ (o0 m d) ∗ rPt d Finset.univ (r0 m d) ∗ Scratch d)
/-- What it ends with. -/
def End (d : Dev nD) : sProp 𝕄 :=
  iprop(semVal (barCell d) 0 ∗ (bigSep Finset.univ fun c : Fin 8 => Zeros d c) ∗ xPt d Finset.univ (xv m d) ∗ oPt d Finset.univ (oF m (side d)) ∗ Scratch d)

/-- The scratch is its two slots. -/
theorem scratch_slots (d : Dev nD) : (Scratch d : sProp 𝕄) ⊣⊢ iprop(Slot d 0 ∗ Slot d 1) := by
  unfold Scratch Slot
  constructor
  · iintro ⟨⟨Ha, Hb, Hs⟩, ⟨H00, H01⟩, ⟨H10, H11⟩, ⟨H20, H21⟩⟩
    ihave Ha := (a_slots d).1 $$ Ha
    icases Ha with ⟨Ha0, Ha1⟩
    ihave Hb := (b_slots d).1 $$ Hb
    icases Hb with ⟨Hb0, Hb1⟩
    ihave Hs := (s_slots d).1 $$ Hs
    icases Hs with ⟨Hs0, Hs1⟩
    isplitl [Ha0 Hb0 Hs0 H00 H10 H20]
    · isplitl [Ha0]; · iexact Ha0
      isplitl [Hb0]; · iexact Hb0
      isplitl [Hs0]; · iexact Hs0
      isplitl [H00]; · iexact H00
      isplitl [H10] <;> iassumption
    isplitl [Ha1]; · iexact Ha1
    isplitl [Hb1]; · iexact Hb1
    isplitl [Hs1]; · iexact Hs1
    isplitl [H01]; · iexact H01
    isplitl [H11] <;> iassumption
  · iintro ⟨⟨Ha0, Hb0, Hs0, H00, H10, H20⟩, Ha1, Hb1, Hs1, H01, H11, H21⟩
    isplitl [Ha0 Hb0 Hs0 Ha1 Hb1 Hs1]
    · isplitl [Ha0 Ha1]
      · iapply (a_slots d).2; isplitl [Ha0] <;> iassumption
      isplitl [Hb0 Hb1]
      · iapply (b_slots d).2; isplitl [Hb0] <;> iassumption
      iapply (s_slots d).2; isplitl [Hs0] <;> iassumption
    isplitl [H00 H01]
    · isplitl [H00] <;> iassumption
    isplitl [H10 H11]
    · isplitl [H10] <;> iassumption
    isplitl [H20] <;> iassumption

/-- What a device holds for chunk `c` after the handshake covers its phases' needs. -/
theorem needs (d : Dev nD) (c : Fin 8) :
    iprop(Deal d c ∗ xPieces d c (xv m d) ∗ oPt d (ck (pos d) c) (o0 m d)
      ∗ (oPt (ccw d) (ck (pos d) c) (o0 m (ccw d)) ∗ oPt (ccw d) (pc (pos d + 1) c 1) (o0 m (ccw d)))
      ∗ (oPt (cw d) (ck (pos d) c) (o0 m (cw d)) ∗ oPt (cw d) (pc (pos d + 3) c 0) (o0 m (cw d)))
      ∗ rPt (zp d) (zc c) (r0 m (zp d)))
    ⊢ iprop((tok d 0 c ∗ tok (zp d) 1 c ∗ xPt d (xc (pos d) c (side d + 1)) (xv m d) ∗ rPt (zp d) (zc c) (r0 m (zp d)))
      ∗ ChunkIn m d c ∗ posAt d 0 c ∗ ((credAt d 8 c ∗ credAt d 9 c) ∗ posAt d 8 c ∗ posAt d 9 c) ∗ (posAt d 6 c ∗ posAt d 7 c)) := by
  unfold Deal xPieces ChunkIn
  iintro ⟨⟨⟨P0, P1, P2, P3, P4, P5, P6, P7, P8, P9⟩, ⟨C1, C4, C5, C8, C9⟩, ⟨T0, T2, T3, T6, T7⟩, T1, T48, T59⟩, ⟨Xs, Xk⟩, Oo, Occw, Ocw, Rz⟩
  isplitl [T0 T1 Xs Rz]
  · isplitl [T0]; · iexact T0
    isplitl [T1]; · iexact T1
    isplitl [Xs] <;> iassumption
  isplitl [P1 P2 P3 P4 P5 C1 C4 C5 T2 T3 T6 T7 T48 T59 Xk Oo Occw Ocw]
  · isplitl [C1 C4 C5]
    · isplitl [C1]; · iexact C1
      isplitl [C4] <;> iassumption
    isplitl [P1 P2 P3 P4 P5]
    · isplitl [P1]; · iexact P1
      isplitl [P2]; · iexact P2
      isplitl [P3]; · iexact P3
      isplitl [P4] <;> iassumption
    isplitl [T2 T3 T6 T7]
    · isplitl [T2]; · iexact T2
      isplitl [T3]; · iexact T3
      isplitl [T6] <;> iassumption
    isplitl [T48]; · iexact T48
    isplitl [T59]; · iexact T59
    isplitl [Xk]; · iexact Xk
    isplitl [Oo]; · iexact Oo
    isplitl [Ocw] <;> iassumption
  isplitl [P0]; · iexact P0
  isplitl [C8 C9 P8 P9]
  · isplitl [C8 C9]
    · isplitl [C8] <;> iassumption
    isplitl [P8] <;> iassumption
  isplitl [P6] <;> iassumption

/-- What the phases leave for chunk `c`: its blocks of the argument back, its blocks of the result complete, its counters at zero. -/
theorem leaves (d : Dev nD) (c : Fin 8) :
    iprop(Done m d c ∗ ((zeroAt d 1 c ∗ zeroAt d 4 c ∗ zeroAt d 5 c) ∗ xPt d (xc (pos d) c (side d)) (xv m d)
        ∗ oPt d (pc (pos d + 3) c 1) (oF m (side d)) ∗ oPt d (pc (pos d + 1) c 0) (oF m (side d)))
      ∗ (pay m d 0 c ∗ zeroAt d 0 c) ∗ (pay m d 8 c ∗ pay m d 9 c ∗ zeroAt d 8 c ∗ zeroAt d 9 c) ∗ (pay m d 6 c ∗ pay m d 7 c ∗ zeroAt d 6 c ∗ zeroAt d 7 c))
      ⊢ iprop(Zeros d c ∗ xPieces d c (xv m d) ∗ oPieces d c (oF m (side d))) := by
  unfold Done Zeros xPieces oPieces
  rw [pay_0, pay_6, pay_7, pay_8, pay_9]
  iintro ⟨⟨⟨Z2, Z3⟩, Oo⟩, ⟨⟨Z1, Z4, Z5⟩, Xk, O31, O10⟩, ⟨Xs, Z0⟩, ⟨O20, O21, Z8, Z9⟩, O30, O11, Z6, Z7⟩
  isplitl [Z0 Z1 Z2 Z3 Z4 Z5 Z6 Z7 Z8 Z9]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8] <;> iassumption
  isplitl [Xs Xk]
  · isplitl [Xs] <;> iassumption
  isplitl [Oo]; · iexact Oo
  isplitl [O10 O11 O21]
  · isplitr [O21]
    · iapply (halves d c (pos d + 1) _).2; isplitl [O10] <;> iassumption
    iexact O21
  isplitr [O20]
  · iapply (halves d c (pos d + 3) _).2; isplitl [O30] <;> iassumption
  iexact O20

/-- The result cut into the device's own blocks and those it hands its neighbours. -/
theorem handed (d : Dev nD) : oPt d Finset.univ (o0 m d)
    ⊢ iprop((bigSep Finset.univ fun c : Fin 8 => oPt d (ck (pos d) c) (o0 m d)) ∗ barPay m (cw d) 0 ∗ barPay m (ccw d) 1) := by
  rw [barPay_cw, barPay_ccw, ← bigSep_sep', ← bigSep_sep']
  exact (o_cut d (o0 m d)).1

/-- After the handshake every chunk has what its phases need. -/
theorem all_needs (d : Dev nD) :
    iprop((bigSep Finset.univ fun c : Fin 8 => Deal d c) ∗ (bigSep Finset.univ fun c : Fin 8 => xPieces d c (xv m d))
      ∗ (bigSep Finset.univ fun c : Fin 8 => oPt d (ck (pos d) c) (o0 m d)) ∗ barPay m d 0 ∗ barPay m d 1 ∗ barPay m d 2)
    ⊢ iprop((bigSep Finset.univ fun c : Fin 8 => iprop(tok d 0 c ∗ tok (zp d) 1 c ∗ xPt d (xc (pos d) c (side d + 1)) (xv m d) ∗ rPt (zp d) (zc c) (r0 m (zp d))))
      ∗ (bigSep Finset.univ fun c : Fin 8 => ChunkIn m d c) ∗ (bigSep Finset.univ fun c : Fin 8 => posAt d 0 c)
      ∗ (bigSep Finset.univ fun c : Fin 8 => iprop((credAt d 8 c ∗ credAt d 9 c) ∗ posAt d 8 c ∗ posAt d 9 c))
      ∗ bigSep Finset.univ fun c : Fin 8 => iprop(posAt d 6 c ∗ posAt d 7 c)) := by
  rw [barPay_0, barPay_1, barPay_2, ← bigSep_sep', ← bigSep_sep', ← bigSep_sep', ← bigSep_sep', ← bigSep_sep', ← bigSep_sep', ← bigSep_sep',
    ← bigSep_sep', ← bigSep_sep']
  exact bigSep_mono fun c _ => needs m d c

theorem out_parts (d : Dev nD) (c : Fin 8) : ChunkOut m d c
    ⊢ iprop(((zeroAt d 1 c ∗ zeroAt d 4 c ∗ zeroAt d 5 c) ∗ xPt d (xc (pos d) c (side d)) (xv m d)
        ∗ oPt d (pc (pos d + 3) c 1) (oF m (side d)) ∗ oPt d (pc (pos d + 1) c 0) (oF m (side d))) ∗ credAt d 6 c ∗ credAt d 7 c) := by
  unfold ChunkOut
  iintro ⟨Hz, Hx, H1, H2, H3⟩
  isplitr [H3]
  · isplitl [Hz]; · iexact Hz
    isplitl [Hx]; · iexact Hx
    isplitl [H1] <;> iassumption
  iexact H3

/-- The chunks' leavings: what is final, and the credits of the relayed halves. -/
theorem all_out (d : Dev nD) : bigSep Finset.univ (ChunkOut m d)
    ⊢ iprop((bigSep Finset.univ fun c : Fin 8 => iprop((zeroAt d 1 c ∗ zeroAt d 4 c ∗ zeroAt d 5 c) ∗ xPt d (xc (pos d) c (side d)) (xv m d)
        ∗ oPt d (pc (pos d + 3) c 1) (oF m (side d)) ∗ oPt d (pc (pos d + 1) c 0) (oF m (side d))))
      ∗ bigSep Finset.univ fun c : Fin 8 => iprop(credAt d 6 c ∗ credAt d 7 c)) := by
  rw [← bigSep_sep']
  exact bigSep_mono fun c _ => out_parts m d c

/-- All that the phases leave, put together. -/
theorem all_leaves (d : Dev nD) :
    iprop(bigSep Finset.univ (Done m d)
      ∗ (bigSep Finset.univ fun c : Fin 8 => iprop((zeroAt d 1 c ∗ zeroAt d 4 c ∗ zeroAt d 5 c) ∗ xPt d (xc (pos d) c (side d)) (xv m d)
        ∗ oPt d (pc (pos d + 3) c 1) (oF m (side d)) ∗ oPt d (pc (pos d + 1) c 0) (oF m (side d))))
      ∗ (bigSep Finset.univ fun c : Fin 8 => iprop(pay m d 0 c ∗ zeroAt d 0 c))
      ∗ (bigSep Finset.univ fun c : Fin 8 => iprop(pay m d 8 c ∗ pay m d 9 c ∗ zeroAt d 8 c ∗ zeroAt d 9 c))
      ∗ bigSep Finset.univ fun c : Fin 8 => iprop(pay m d 6 c ∗ pay m d 7 c ∗ zeroAt d 6 c ∗ zeroAt d 7 c))
    ⊢ iprop((bigSep Finset.univ fun c : Fin 8 => Zeros d c) ∗ (bigSep Finset.univ fun c : Fin 8 => xPieces d c (xv m d))
      ∗ bigSep Finset.univ fun c : Fin 8 => oPieces d c (oF m (side d))) := by
  rw [← bigSep_sep', ← bigSep_sep', ← bigSep_sep', ← bigSep_sep', ← bigSep_sep', ← bigSep_sep']
  exact bigSep_mono fun c _ => leaves m d c

theorem zip (A B : Fin 8 → sProp 𝕄) : iprop(bigSep Finset.univ A ∗ bigSep Finset.univ B) ⊢ bigSep Finset.univ fun c => iprop(A c ∗ B c) :=
  Entails.of_eq (bigSep_sep' _ A B).symm

theorem wp_done (d : Dev nD) (Q : PUnit → sProp 𝕄) : Q ⟨⟩ ⊢ Wp (F := F) d (.ret ⟨⟩) Q := by
  unfold Wp; rw [wp_ret]; exact fupd_intro

/-- The body, on device `d`. -/
theorem wp_body (d : Dev nD) (Q : PUnit → sProp 𝕄) :
    iprop(known m K ∗ Start m d ∗ Owes d (O₀ d)) ⊢ iprop(((End m d ∗ Owes d 0) -∗ Q ⟨⟩) -∗ Wp d (bodyOn d) Q) := by
  unfold Start End bodyOn
  iintro ⟨#Hk, ⟨Hh, Hdeal, Hx, Ho, Hr, Hsc⟩, HO⟩ Hc
  ihave Ho := (handed m d) $$ Ho
  icases Ho with ⟨Hown, Hto1, Hto2⟩
  ihave Hr := (Entails.of_eq (barPay_zp m d).symm) $$ Hr
  iapply (wp_handshake m K d) $$ [Hh Hto1 Hto2 Hr HO]
  · isplitr; · iexact Hk
    isplitr [HO]
    · isplitl [Hh]; · iexact Hh
      isplitl [Hto1]; · iexact Hto1
      isplitl [Hto2] <;> iassumption
    iexact HO
  iintro ⟨⟨Hccw, Hcw, Hz, Hbar⟩, HO⟩
  ihave Hx := (x_cut d (xv m d)).1 $$ Hx
  icases Hx with ⟨Hx, Hxr⟩
  ihave Hn := (all_needs m d) $$ [Hdeal Hx Hown Hccw Hcw Hz]
  · isplitl [Hdeal]; · iexact Hdeal
    isplitl [Hx]; · iexact Hx
    isplitl [Hown]; · iexact Hown
    isplitl [Hccw]; · iexact Hccw
    isplitl [Hcw] <;> iassumption
  icases Hn with ⟨Hzin, Hin, Hp0, Hdg, Hp67⟩
  iapply (wp_each m K d (zSend d) _ (fun c => credAt d 0 c) (fun n => Owes d (owFs d 0 + owZs d n)) Q (fun c P => by
      rw [owZs_peel, ← add_assoc]; exact wp_zSend m K d c _)) $$ [Hzin HO]
  · isplitr; · iexact Hk
    isplitl [Hzin]; · iexact Hzin
    iexact HO
  rw [owZs_8, add_zero]
  iintro ⟨Hc0, HO⟩
  ihave Hsc := (scratch_slots d).1 $$ Hsc
  icases Hsc with ⟨Hs0, Hs1⟩
  iapply (wp_chunks m K d) $$ [Hs0 Hs1 Hin HO]
  · isplitr; · iexact Hk
    isplitr [HO]
    · isplitl [Hs0]; · iexact Hs0
      isplitl [Hs1] <;> iassumption
    iexact HO
  iintro ⟨⟨Hs0, Hs1, Hdone, Hout⟩, HO⟩
  ihave Hout := (all_out m d) $$ Hout
  icases Hout with ⟨Hout, Hc67⟩
  iapply (wp_each m K d (zSent d) (fun c => iprop(credAt d 0 c ∗ posAt d 0 c)) (fun c => iprop(pay m d 0 c ∗ zeroAt d 0 c)) (fun _ => Owes d 0) Q (fun c P =>
      wp_zSent m K d c)) $$ [Hc0 Hp0 HO]
  · isplitr; · iexact Hk
    isplitr [HO]
    · iapply (zip _ _); isplitl [Hc0] <;> iassumption
    iexact HO
  iintro ⟨Hxs, HO⟩
  iapply (wp_each m K d (diagIn d) _ (fun c => iprop(pay m d 8 c ∗ pay m d 9 c ∗ zeroAt d 8 c ∗ zeroAt d 9 c)) (fun _ => Owes d 0) Q (fun c P =>
      wp_diagIn m K d c)) $$ [Hdg HO]
  · isplitr; · iexact Hk
    isplitl [Hdg] <;> iassumption
  iintro ⟨Hdg, HO⟩
  iapply (wp_each m K d (relaySent d) (fun c => iprop((credAt d 6 c ∗ credAt d 7 c) ∗ posAt d 6 c ∗ posAt d 7 c))
      (fun c => iprop(pay m d 6 c ∗ pay m d 7 c ∗ zeroAt d 6 c ∗ zeroAt d 7 c)) (fun _ => Owes d 0) Q (fun c P => wp_relaySent m K d c)) $$ [Hc67 Hp67 HO]
  · isplitr; · iexact Hk
    isplitr [HO]
    · iapply (zip _ _); isplitl [Hc67] <;> iassumption
    iexact HO
  iintro ⟨Hrs, HO⟩
  ihave He := (all_leaves m d) $$ [Hdone Hout Hxs Hdg Hrs]
  · isplitl [Hdone]; · iexact Hdone
    isplitl [Hout]; · iexact Hout
    isplitl [Hxs]; · iexact Hxs
    isplitl [Hdg] <;> iassumption
  icases He with ⟨Hzs, Hx, Ho⟩
  iapply (wp_done d Q)
  iapply Hc
  isplitr [HO]
  · isplitl [Hbar]; · iexact Hbar
    isplitl [Hzs]; · iexact Hzs
    isplitl [Hx Hxr]
    · iapply (x_cut d (xv m d)).2; isplitl [Hx] <;> iassumption
    isplitl [Ho]
    · iapply (o_cut d (oF m (side d))).2; iexact Ho
    iapply (scratch_slots d).2
    isplitl [Hs0] <;> iassumption
  iexact HO

end Cert.AllReduce

end
-- ==== Proof.Deal.lean ====
/-
What the launch deals: every cell's invariant, each device's places, credits and tokens, the tokens brought to the devices that
use them.
-/
module

public import proofs.«01_k».proof.Proof.Body
public import proofs.«01_k».proof.Proof.Gen.KernelIdeal.Launch

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## Families over cells -/

/-- A family over a device's cells: its transfer cells' part and its barrier cell's. -/
theorem over_cells (A : CellIx → sProp 𝕄) :
    bigSep Finset.univ A = iprop((bigSep Finset.univ fun kc : Fin 10 × Fin 8 => A (some kc)) ∗ A none) := by
  rw [bigSep_univ_equiv (Equiv.optionEquivSumPUnit.{0} (Fin 10 × Fin 8)).symm A, bigSep_univ_sum,
    show (Finset.univ : Finset PUnit.{1}) = {⟨⟩} from rfl, bigSep_singleton]
  rfl

/-- A family over the transfer cells, chunk by chunk. -/
theorem over_kinds (A : Fin 10 → Fin 8 → sProp 𝕄) : (bigSep Finset.univ fun kc : Fin 10 × Fin 8 => A kc.1 kc.2)
    = bigSep Finset.univ fun c : Fin 8 => iprop(A 0 c ∗ A 1 c ∗ A 2 c ∗ A 3 c ∗ A 4 c ∗ A 5 c ∗ A 6 c ∗ A 7 c ∗ A 8 c ∗ A 9 c) := by
  rw [bigSep_univ_prod, bigSep_univ_comm]
  exact bigSep_congr fun c _ => bigSep_univ_eq_bigSepL ([0, 1, 2, 3, 4, 5, 6, 7, 8, 9] : List (Fin 10)) (by decide) (by decide) _

/-- A family over the devices and `J` dealt out again, the part at `j` to the device that `e j` takes there. -/
theorem around {J : Type} [Fintype J] [DecidableEq J] (e : J → Dev nD ≃ Dev nD) (A : Dev nD → J → sProp 𝕄) :
    (bigSep Finset.univ fun d : Dev nD => bigSep Finset.univ fun j : J => A d j)
      = bigSep Finset.univ fun d : Dev nD => bigSep Finset.univ fun j : J => A (e j d) j := by
  rw [bigSep_univ_comm, bigSep_univ_comm (fun (d : Dev nD) (j : J) => A (e j d) j)]
  exact bigSep_congr fun j _ => bigSep_univ_equiv (e j) fun d => A d j

/-! ## The launch's cells and tokens -/

theorem kcell_injective : Function.Injective (kcell : Dev nD × CellIx → GSem nD τ sig) := by
  rintro ⟨d, x⟩ ⟨d', x'⟩ h
  cases x with
  | none => cases x' with
    | none => exact Prod.ext (barCell_inj h) rfl
    | some y => exact absurd h.symm dcell_ne_bar
  | some y => cases x' with
    | none => exact absurd h dcell_ne_bar
    | some y' =>
      obtain ⟨h1, h2, h3⟩ := dcell_inj h
      exact Prod.ext h1 (congrArg some (Prod.ext h2 h3))
/-- All the cells. -/
def allCells : Finset (GSem nD τ sig) := Finset.univ.map ⟨kcell, kcell_injective⟩

/-- A device's tokens: one for each neighbour at its barrier cell, one at each transfer cell. -/
abbrev TokIx : Type := Fin 3 ⊕ (Fin 10 × Fin 8)
def tokOf : Dev nD × TokIx → GSem nD τ sig × ℕ × Fin 3
  | (d, .inl j) => (barCell d, 0, j)
  | (d, .inr kc) => (dcell d kc.1 kc.2, 0, 0)
theorem tokOf_injective : Function.Injective tokOf := by
  rintro ⟨d, x⟩ ⟨d', x'⟩ h
  cases x with
  | inl j => cases x' with
    | inl j' =>
      have h1 : barCell d = barCell d' := congrArg Prod.fst h
      have h2 : j = j' := congrArg (fun x => x.2.2) h
      rw [barCell_inj h1, h2]
    | inr y => exact absurd (congrArg Prod.fst h).symm dcell_ne_bar
  | inr y => cases x' with
    | inl j => exact absurd (congrArg Prod.fst h) dcell_ne_bar
    | inr y' =>
      obtain ⟨h1, h2, h3⟩ := dcell_inj (congrArg Prod.fst h)
      rw [h1, show y = y' from Prod.ext h2 h3]
def allToks : Finset (GSem nD τ sig × ℕ × Fin 3) := Finset.univ.map ⟨tokOf, tokOf_injective⟩

/-- The launch's ghost state. -/
def u₀ : UU := (initOf (Pipeline.cells cfgs cellOf_inj) (Pipeline.launchToks cfgs cellOf_inj), (initOf allCells allToks, 1))

theorem u₀_split : (ownU u₀ : sProp 𝕄)
    ⊢ iprop(BI.own (EP (initOf (Pipeline.cells cfgs cellOf_inj) (Pipeline.launchToks cfgs cellOf_inj))) ∗ BI.own (ER (initOf allCells allToks))) := by
  unfold u₀
  exact BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf allCells allToks, (1 : Counters)))))

/-- The tokens at device `d`'s own cells. -/
def ownToks (d : Dev nD) : sProp 𝕄 :=
  iprop((bigSep Finset.univ fun j : Fin 3 => dutyTok ER (barCell d) 0 j) ∗ bigSep Finset.univ fun kc : Fin 10 × Fin 8 => tok d kc.1 kc.2)

/-- What the ghost state gives device `d`. -/
def Dealt (d : Dev nD) : sProp 𝕄 :=
  iprop((bigSep Finset.univ fun x : CellIx => roundState ER (Rd m) (kcell (d, x)) 0)
    ∗ ((bigSep Finset.univ fun x : CellIx => atPos ER (kcell (d, x)) 0 ∅ 0) ∗ bigSep Finset.univ fun x : CellIx => reached ER (kcell (d, x)) 0) ∗ ownToks d)

theorem deal_out : BI.own (ER (initOf allCells allToks)) ⊢ (|==> bigSep Finset.univ (Dealt m) : sProp 𝕄) := by
  have hc (A : GSem nD τ sig → sProp 𝕄) : bigSep allCells A = bigSep Finset.univ fun d : Dev nD => bigSep Finset.univ fun x : CellIx => A (kcell (d, x)) := by
    unfold allCells; rw [bigSep_map, bigSep_univ_prod]; rfl
  have ht : bigSep allToks (fun x => (dutyTok ER x.1 x.2.1 x.2.2 : sProp 𝕄)) = bigSep Finset.univ fun d : Dev nD => ownToks d := by
    unfold allToks; rw [bigSep_map, bigSep_univ_prod]
    exact bigSep_congr fun d _ => bigSep_univ_sum _
  iintro H
  imod (Rounds.fund ER (Rd m) allCells allToks) $$ H with ⟨Hst, Hr, Hat, Htok⟩
  imodintro
  unfold Dealt; simp only [bigSep_sep']
  isplitl [Hst]; · iapply (Entails.of_eq (hc fun g => roundState ER (Rd m) g 0)); iexact Hst
  isplitl [Hat Hr]
  · isplitl [Hat]; · iapply (Entails.of_eq (hc fun g => atPos ER g 0 ∅ 0)); iexact Hat
    iapply (Entails.of_eq (hc fun g => reached ER g 0)); iexact Hr
  iapply (Entails.of_eq ht); iexact Htok

/-! ## Semaphores at zero -/

/-- The kernel's own semaphores: the transfers' and the local copies'. -/
abbrev OwnIx : Type := (Fin 10 × Fin 8) ⊕ (Fin 3 × Fin 2)
def osem : OwnIx → SemLoc sig
  | .inl kc => .dma (qs kc.1 kc.2)
  | .inr js => .dma (ls js.1 js.2)

/-- The local copies' counters at zero. -/
def Locals (d : Dev nD) : sProp 𝕄 := iprop((zeroLoc d 0 0 ∗ zeroLoc d 0 1) ∗ (zeroLoc d 1 0 ∗ zeroLoc d 1 1) ∗ (zeroLoc d 2 0 ∗ zeroLoc d 2 1))

theorem locals_eq (d : Dev nD) : (bigSep Finset.univ fun js : Fin 3 × Fin 2 => (zeroLoc d js.1 js.2 : sProp 𝕄)) = Locals d := by
  rw [bigSep_univ_prod, bigSep_univ_eq_bigSepL ([0, 1, 2] : List (Fin 3)) (by decide) (by decide)]
  show iprop((bigSep Finset.univ fun s : Fin 2 => zeroLoc d 0 s) ∗ (bigSep Finset.univ fun s : Fin 2 => zeroLoc d 1 s) ∗ (bigSep Finset.univ fun s : Fin 2 => zeroLoc d 2 s)) = _
  rw [bigSep_univ_two, bigSep_univ_two, bigSep_univ_two]
  rfl

theorem ownSems_eq (d : Dev nD) : (Pipeline.ownSems0 (Ix := Unit) (Name := ℕ) (U := UU) (Lvl := ℕ) (Val := Elt F) (τ := τ) osem d : sProp 𝕄)
    = iprop((bigSep Finset.univ fun kc : Fin 10 × Fin 8 => zeroAt d kc.1 kc.2) ∗ Locals d) := by
  unfold Pipeline.ownSems0
  rw [bigSep_univ_sum]
  exact congrArg (fun P => iprop((bigSep Finset.univ fun kc : Fin 10 × Fin 8 => zeroAt d kc.1 kc.2) ∗ P)) (locals_eq d)

theorem unscopedSems_eq (d : Dev nD) : (unscopedSems0 d : sProp 𝕄) = semVal (barCell d) 0 := by
  unfold unscopedSems0; rw [bigSep_eq_bigSepL_of_eq [SemLoc.reg barS] (by decide) (by decide)]; rfl

/-! ## The invariants -/

/-- Every cell of device `d` put under its invariant. -/
theorem alloc_cells (d : Dev nD) :
    iprop(Pipeline.ownSems0 (Ix := Unit) (Name := ℕ) (U := UU) (Lvl := ℕ) (Val := Elt F) (τ := τ) osem d ∗ unscopedSems0 d ∗ Dealt m d)
      ⊢ |={Set.univ}=> iprop((bigSep Finset.univ fun x : CellIx => iprop(∃ κ : ℕ, cellInv ER (Rd m) κ (kcell (d, x))))
          ∗ (bigSep Finset.univ fun x : CellIx => reached ER (kcell (d, x)) 0) ∗ (bigSep Finset.univ fun x : CellIx => atPos ER (kcell (d, x)) 0 ∅ 0)
          ∗ ownToks d ∗ Locals d) := by
  have hv : iprop((bigSep Finset.univ fun kc : Fin 10 × Fin 8 => zeroAt d kc.1 kc.2) ∗ semVal (barCell d) 0)
      ⊢ (bigSep Finset.univ fun x : CellIx => semVal (kcell (d, x)) 0 : sProp 𝕄) :=
    Entails.of_eq (over_cells fun x => semVal (kcell (d, x)) 0).symm
  have ha : iprop((bigSep Finset.univ fun x : CellIx => semVal (kcell (d, x)) 0) ∗ bigSep Finset.univ fun x : CellIx => roundState ER (Rd m) (kcell (d, x)) 0)
      ⊢ (|={Set.univ}=> bigSep Finset.univ fun x : CellIx => iprop(∃ κ : ℕ, cellInv ER (Rd m) κ (kcell (d, x))) : sProp 𝕄) := by
    rw [← bigSep_sep']
    exact (bigSep_mono fun x _ => (Rounds.body_intro ER (Rd m) (kcell (d, x))).trans inv_alloc).trans (bigSep_fupd _ _)
  rw [ownSems_eq, unscopedSems_eq]
  unfold Dealt
  iintro ⟨⟨Hz, Hl⟩, Hb, Hst, ⟨Hat, Hr⟩, Htok⟩
  ihave Hv := hv $$ [Hz Hb]
  · isplitl [Hz] <;> iassumption
  imod ha $$ [Hv Hst] with Hinv
  · isplitl [Hv] <;> iassumption
  imodintro
  isplitl [Hinv]; · iexact Hinv
  isplitl [Hr]; · iexact Hr
  isplitl [Hat]; · iexact Hat
  isplitl [Htok] <;> iassumption

/-- Whose barrier cell a device signals, and whose transfer cell of each kind it pays. -/
def barTo : Fin 3 → Dev nD ≃ Dev nD
  | 0 => cwE | 1 => ccwE | 2 => zpE
def xferTo : Fin 10 → Dev nD ≃ Dev nD
  | 1 => zpE | 4 => cwE | 5 => ccwE | 8 => cwE | 9 => ccwE | _ => Equiv.refl _

/-- The tokens of what device `d` pays. -/
def PayToks (d : Dev nD) : sProp 𝕄 :=
  iprop((bigSep Finset.univ fun j : Fin 3 => dutyTok ER (barCell (barTo j d)) 0 j) ∗ bigSep Finset.univ fun kc : Fin 10 × Fin 8 => tok (xferTo kc.1 d) kc.1 kc.2)

/-- The tokens brought to the devices that use them. -/
theorem toks_around : (bigSep Finset.univ fun d : Dev nD => (ownToks d : sProp 𝕄)) = bigSep Finset.univ fun d : Dev nD => PayToks d := by
  unfold ownToks PayToks
  rw [bigSep_sep', bigSep_sep', around barTo fun d j => dutyTok ER (barCell d) 0 j, around (fun kc : Fin 10 × Fin 8 => xferTo kc.1) fun d kc => tok d kc.1 kc.2]

/-- What device `d` has after every cell is set up. -/
def Ready (d : Dev nD) : sProp 𝕄 :=
  iprop(∃ K, records m K ∗ (bigSep Finset.univ fun x : CellIx => atPos ER (kcell (d, x)) 0 ∅ 0) ∗ PayToks d ∗ Locals d)

theorem deal_with {R : sProp 𝕄} [BI.Persistent R] {A B : Dev nD → sProp 𝕄} (h : ∀ d, iprop(R ∗ A d) ⊢ B d) :
    iprop(R ∗ bigSep Finset.univ A) ⊢ bigSep Finset.univ B :=
  (sep_mono_left (BI.bigSep_of_persistent Finset.univ R)).trans (by rw [← bigSep_sep']; exact bigSep_mono fun d _ => h d)

theorem regroup :
    (bigSep Finset.univ fun d : Dev nD => iprop((bigSep Finset.univ fun x : CellIx => iprop(∃ κ : ℕ, cellInv ER (Rd m) κ (kcell (d, x))))
          ∗ (bigSep Finset.univ fun x : CellIx => reached ER (kcell (d, x)) 0) ∗ (bigSep Finset.univ fun x : CellIx => atPos ER (kcell (d, x)) 0 ∅ 0)
          ∗ ownToks d ∗ Locals d) : sProp 𝕄)
      ⊢ bigSep Finset.univ (Ready m) := by
  rw [bigSep_sep', bigSep_sep', bigSep_sep', bigSep_sep', toks_around,
    ← bigSep_univ_prod (fun x : Dev nD × CellIx => iprop(∃ κ : ℕ, cellInv ER (Rd m) κ (kcell x))),
    ← bigSep_univ_prod (fun x : Dev nD × CellIx => (reached ER (kcell x) 0 : sProp 𝕄)), ← bigSep_sep', ← bigSep_sep']
  iintro ⟨HI, #HR, Hrest⟩
  ihave HK := (BI.bigSep_exists_pi Finset.univ (fun (x : Dev nD × CellIx) (κ : ℕ) => (cellInv ER (Rd m) κ (kcell x) : sProp 𝕄))) $$ HI
  icases HK with ⟨%K, #HI⟩
  iapply (deal_with (R := records m K)
    (A := fun d => iprop((bigSep Finset.univ fun x : CellIx => atPos ER (kcell (d, x)) 0 ∅ 0) ∗ PayToks d ∗ Locals d)) fun d => by
      unfold Ready
      iintro ⟨HR, H⟩
      iexists K
      isplitl [HR] <;> iassumption)
  isplitr
  · unfold records; isplitl; · iexact HI
    iexact HR
  iexact Hrest

/-- All devices' semaphores and ghost state made into what each device has. -/
theorem set_up : (bigSep Finset.univ fun d => iprop(Pipeline.ownSems0 (Ix := Unit) (Name := ℕ) (U := UU) (Lvl := ℕ) (Val := Elt F) (τ := τ) osem d
      ∗ unscopedSems0 d ∗ Dealt m d) : sProp 𝕄) ⊢ |={Set.univ}=> bigSep Finset.univ (Ready m) :=
  ((bigSep_mono fun d _ => alloc_cells m d).trans (bigSep_fupd _ _)).trans (BI.fupd_mono (regroup m))

/-! ## The launch's credits -/

theorem chunk_credits (d : Dev nD) (c : Fin 8) :
    iprop(((Pipeline.launchCred (fun d : Dev nD => tallyAt (dcell (ccw d) 9 c) () (amt 9)) d ∗ Pipeline.launchCred (fun d : Dev nD => tallyAt (dcell (cw d) 8 c) () (amt 8)) d)
        ∗ Pipeline.launchCred (fun d : Dev nD => tallyAt (dcell (ccw d) 5 c) () (amt 5)) d) ∗ Pipeline.launchCred (fun d : Dev nD => tallyAt (dcell (cw d) 4 c) () (amt 4)) d)
      ⊢ (iprop(credAt d 4 c ∗ credAt d 5 c ∗ credAt d 8 c ∗ credAt d 9 c) : sProp 𝕄) := by
  iintro ⟨⟨⟨H9, H8⟩, H5⟩, H4⟩
  isplitl [H4]; · iapply (Pipeline.launchCred_tallyAt (.dma (qs 4 c)) cw ccw cw_ccw ccw_cw () (amt 4) d); iexact H4
  isplitl [H5]; · iapply (Pipeline.launchCred_tallyAt (.dma (qs 5 c)) ccw cw ccw_cw cw_ccw () (amt 5) d); iexact H5
  isplitl [H8]; · iapply (Pipeline.launchCred_tallyAt (.dma (qs 8 c)) cw ccw cw_ccw ccw_cw () (amt 8) d); iexact H8
  iapply (Pipeline.launchCred_tallyAt (.dma (qs 9 c)) ccw cw ccw_cw cw_ccw () (amt 9) d); iexact H9

/-- The credits of what the neighbours owe device `d`. -/
theorem credits (d : Dev nD) : (Pipeline.launchCred O₀ d : sProp 𝕄)
    ⊢ iprop(cred (tallyAt (barCell d) () 3) ∗ bigSep Finset.univ fun c : Fin 8 => iprop(credAt d 1 c ∗ credAt d 4 c ∗ credAt d 5 c ∗ credAt d 8 c ∗ credAt d 9 c)) := by
  have hF : (Pipeline.launchCred (fun d : Dev nD => owFs d 0) d : sProp 𝕄) ⊢ bigSep Finset.univ fun c : Fin 8 => iprop(credAt d 4 c ∗ credAt d 5 c ∗ credAt d 8 c ∗ credAt d 9 c) := by
    rw [show (fun d : Dev nD => owFs d 0) = fun d => ∑ c : Fin 8, owF d c 0 from funext fun d => sum_all _, Pipeline.launchCred_sum]
    refine bigSep_mono fun c _ => ?_
    unfold owF
    simp only [zero_add]
    rw [Pipeline.launchCred_add, Pipeline.launchCred_add, Pipeline.launchCred_add]
    exact chunk_credits d c
  have hZ : (Pipeline.launchCred (fun d : Dev nD => owZs d 0) d : sProp 𝕄) ⊢ bigSep Finset.univ fun c : Fin 8 => credAt d 1 c := by
    rw [show (fun d : Dev nD => owZs d 0) = fun d => ∑ c : Fin 8, owZ d c from funext fun d => sum_all _, Pipeline.launchCred_sum]
    exact bigSep_mono fun c _ => Pipeline.launchCred_tallyAt _ zp zp zp_zp zp_zp () _ d
  have hB : iprop(cred (tallyAt (barCell d) () 1) ∗ cred (tallyAt (barCell d) () 1) ∗ cred (tallyAt (barCell d) () 1)) ⊢ (cred (tallyAt (barCell d) () 3) : sProp 𝕄) := by
    refine (sep_mono_right (cred_add _ _).2).trans ((cred_add _ _).2.trans ?_)
    rw [tallyAt_add, tallyAt_add]
  rw [show (O₀ : Dev nD → CellTallies nD τ sig Unit) = fun d => owFs d 0 + owZs d 0 + tallyAt (barCell (zp d)) () 1 + tallyAt (barCell (ccw d)) () 1 + tallyAt (barCell (cw d)) () 1 from rfl,
    Pipeline.launchCred_add, Pipeline.launchCred_add, Pipeline.launchCred_add, Pipeline.launchCred_add, bigSep_sep']
  iintro ⟨⟨⟨⟨HF, HZ⟩, H1⟩, H2⟩, H3⟩
  isplitl [H1 H2 H3]
  · iapply hB
    isplitl [H1]; · iapply (Pipeline.launchCred_tallyAt (.reg barS) zp zp zp_zp zp_zp () 1 d); iexact H1
    isplitl [H2]; · iapply (Pipeline.launchCred_tallyAt (.reg barS) ccw cw ccw_cw cw_ccw () 1 d); iexact H2
    iapply (Pipeline.launchCred_tallyAt (.reg barS) cw ccw cw_ccw ccw_cw () 1 d); iexact H3
  isplitl [HZ]
  · iapply hZ; iexact HZ
  iapply hF; iexact HF

/-! ## A device's start -/

theorem deal_chunk (d : Dev nD) (c : Fin 8) :
    iprop((posAt d 0 c ∗ posAt d 1 c ∗ posAt d 2 c ∗ posAt d 3 c ∗ posAt d 4 c ∗ posAt d 5 c ∗ posAt d 6 c ∗ posAt d 7 c ∗ posAt d 8 c ∗ posAt d 9 c)
      ∗ (credAt d 1 c ∗ credAt d 4 c ∗ credAt d 5 c ∗ credAt d 8 c ∗ credAt d 9 c)
      ∗ tok d 0 c ∗ tok (zp d) 1 c ∗ tok d 2 c ∗ tok d 3 c ∗ tok (cw d) 4 c ∗ tok (ccw d) 5 c ∗ tok d 6 c ∗ tok d 7 c ∗ tok (cw d) 8 c ∗ tok (ccw d) 9 c)
    ⊢ (Deal d c : sProp 𝕄) := by
  unfold Deal
  iintro ⟨Hp, Hc, T0, T1, T2, T3, T4, T5, T6, T7, T8, T9⟩
  isplitl [Hp]; · iexact Hp
  isplitl [Hc]; · iexact Hc
  isplitl [T0 T2 T3 T6 T7]
  · isplitl [T0]; · iexact T0
    isplitl [T2]; · iexact T2
    isplitl [T3]; · iexact T3
    isplitl [T6] <;> iassumption
  isplitl [T1]; · iexact T1
  isplitl [T4 T8]
  · isplitl [T4] <;> iassumption
  isplitl [T5] <;> iassumption

theorem deal_chunks (d : Dev nD) :
    iprop((bigSep Finset.univ fun c : Fin 8 => iprop(posAt d 0 c ∗ posAt d 1 c ∗ posAt d 2 c ∗ posAt d 3 c ∗ posAt d 4 c ∗ posAt d 5 c ∗ posAt d 6 c ∗ posAt d 7 c
        ∗ posAt d 8 c ∗ posAt d 9 c))
      ∗ (bigSep Finset.univ fun c : Fin 8 => iprop(credAt d 1 c ∗ credAt d 4 c ∗ credAt d 5 c ∗ credAt d 8 c ∗ credAt d 9 c))
      ∗ bigSep Finset.univ fun c : Fin 8 => iprop(tok d 0 c ∗ tok (zp d) 1 c ∗ tok d 2 c ∗ tok d 3 c ∗ tok (cw d) 4 c ∗ tok (ccw d) 5 c ∗ tok d 6 c ∗ tok d 7 c
          ∗ tok (cw d) 8 c ∗ tok (ccw d) 9 c))
    ⊢ (bigSep Finset.univ fun c : Fin 8 => Deal d c : sProp 𝕄) := by
  refine (sep_mono_right (zip _ _)).trans ((zip _ _).trans ?_)
  exact bigSep_mono fun c _ => deal_chunk d c

/-- A device's places, credits and tokens, dealt by chunk. -/
theorem deal_start (d : Dev nD) :
    iprop((bigSep Finset.univ fun x : CellIx => atPos ER (kcell (d, x)) 0 ∅ 0) ∗ PayToks d ∗ Pipeline.launchCred O₀ d)
      ⊢ (iprop(HandIn d ∗ bigSep Finset.univ fun c : Fin 8 => Deal d c) : sProp 𝕄) := by
  have hp : (bigSep Finset.univ fun x : CellIx => atPos ER (kcell (d, x)) 0 ∅ 0 : sProp 𝕄)
      = iprop((bigSep Finset.univ fun c : Fin 8 => iprop(posAt d 0 c ∗ posAt d 1 c ∗ posAt d 2 c ∗ posAt d 3 c ∗ posAt d 4 c ∗ posAt d 5 c ∗ posAt d 6 c ∗ posAt d 7 c
        ∗ posAt d 8 c ∗ posAt d 9 c)) ∗ atPos ER (barCell d) 0 ∅ 0) := by
    rw [over_cells, ← over_kinds fun k c => posAt d k c]; rfl
  have ht : (PayToks d : sProp 𝕄)
      = iprop((dutyTok ER (barCell (cw d)) 0 0 ∗ dutyTok ER (barCell (ccw d)) 0 1 ∗ dutyTok ER (barCell (zp d)) 0 2)
        ∗ bigSep Finset.univ fun c : Fin 8 => iprop(tok d 0 c ∗ tok (zp d) 1 c ∗ tok d 2 c ∗ tok d 3 c ∗ tok (cw d) 4 c ∗ tok (ccw d) 5 c ∗ tok d 6 c ∗ tok d 7 c
          ∗ tok (cw d) 8 c ∗ tok (ccw d) 9 c)) := by
    unfold PayToks
    rw [over_kinds fun k c => tok (xferTo k d) k c, bigSep_univ_eq_bigSepL ([0, 1, 2] : List (Fin 3)) (by decide) (by decide)]
    rfl
  rw [hp, ht]
  unfold HandIn
  iintro ⟨⟨Hp, Hb⟩, ⟨⟨H0, H1, H2⟩, Ht⟩, Hc⟩
  ihave Hc := (credits d) $$ Hc
  icases Hc with ⟨Hcb, Hc⟩
  isplitl [Hb H0 H1 H2 Hcb]
  · isplitl [Hcb]; · iexact Hcb
    isplitl [Hb]; · iexact Hb
    isplitl [H0]; · iexact H0
    isplitl [H1] <;> iassumption
  iapply (deal_chunks d)
  isplitl [Hp]; · iexact Hp
  isplitl [Hc] <;> iassumption

end Cert.AllReduce

end
-- ==== Proof.Run.lean ====
/-
The run: from any memory with zero counters the eight kernels end, each device's result holding the sum on its side, the
argument unchanged, every counter at zero. For any float values.
-/
module

public import proofs.«01_k».proof.Proof.Deal
public import proofs.«01_k».proof.Proof.Gen.KernelIdeal.Points
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the launch calls it -/

/-- Before the body, and after it. -/
def Φ₀ (d : Dev nD) : sProp 𝕄 := iprop(∃ K, known m K ∗ Start m d)
def Φ₁ (d : Dev nD) : sProp 𝕄 := End m d

/-- The launch's data: no array is staged, the body has the buffers themselves. -/
def dats (_ : Fin 1) (d : Dev nD) : Dat τ (Elt F) Unit ℕ UU ℕ cfg0 d where
  A w := w.elim0
  after w _ := w.elim0
  Φ t := match t with
    | ⟨0, _⟩ => Φ₀ m d
    | ⟨_ + 1, _⟩ => Φ₁ m d
  q _ := fullShare
  owed t := match t with
    | ⟨0, _⟩ => O₀ d
    | ⟨_ + 1, _⟩ => 0

theorem no_windows (A : Fin cfg0.W → sProp 𝕄) : bigSep Finset.univ A = BI.emp := by
  rw [show (Finset.univ : Finset (Fin cfg0.W)) = ∅ from rfl, bigSep_empty]

theorem sound (d : Dev nD) :
    iprop(Φ₀ m d ∗ (dats m 0 d).owesAt () t0_0.castSucc ∗ BI.emp) ⊢ Wp d (bodyAt0 t0_0) fun _ => iprop(Φ₁ m d ∗ (dats m 0 d).owesAt () t0_0.succ ∗ BI.emp) := by
  have hb : (bodyAt0 t0_0 : Code F) = .op .deviceId fun d => bodyOn d := body_eq
  rw [hb]
  unfold Wp
  rw [wp_deviceId]
  unfold Φ₀ Φ₁ Dat.owesAt Pipeline.owesWithin
  rw [show (dats m 0 d).owed t0_0.castSucc = O₀ d from rfl, show (dats m 0 d).owed t0_0.succ = 0 from rfl]
  iintro ⟨⟨%K, #Hk, Hs⟩, ⟨%W, %hW, HO⟩, -⟩
  iapply (wp_body m K d _) $$ [Hs HO]
  · isplitr; · iexact Hk
    isplitl [Hs]; · iexact Hs
    unfold Owes
    iexists W; iexact HO
  unfold Owes
  iintro ⟨He, ⟨%W', HO⟩⟩
  isplitl [He]; · iexact He
  isplitl [HO]
  · iexists W'
    isplitr; · ipureintro; exact fun _ _ => Or.inl trivial
    iexact HO
  iempintro

set_option maxRecDepth 100000 in
theorem body_obligation (d : Dev nD) : BodyObligation (dats (F := F) m 0 d) (defs₀ (F := F)) 𝒱₀ () Set.univ := fun t => by
  rw [fin_N0 t, no_windows, no_windows]
  exact sound m d

/-! ## Into the launch and out of it -/

set_option maxRecDepth 20000 in
theorem dma_scoped : ∀ q : DmaSem sig, (SemLoc.dma q : SemLoc sig).isScoped .tc = true := by decide +kernel

theorem own_facts : Pipeline.OwnSemFacts cfg0.spec osem where
  isScoped k := by rcases k with k | k; exacts [dma_scoped _, dma_scoped _]
  inj := by
    have hn (x : OwnIx) : osem x = .dma (match x with | .inl kc => qs kc.1 kc.2 | .inr js => ls js.1 js.2) := by cases x <;> rfl
    intro x y h
    rw [hn, hn] at h
    have hq := congrArg Fin.val (SemLoc.dma.inj h)
    revert hq; clear h
    rcases x with ⟨k, c⟩ | ⟨j, s⟩ <;> rcases y with ⟨k', c'⟩ | ⟨j', s'⟩
    · intro hq
      have hq : 8 * k.val + c.val = 8 * k'.val + c'.val := hq
      exact congrArg Sum.inl (Prod.ext (Fin.ext (by show k.val = k'.val; omega)) (Fin.ext (by show c.val = c'.val; omega)))
    · intro hq
      have hq : 8 * k.val + c.val = 80 + 2 * j'.val + s'.val := hq
      omega
    · intro hq
      have hq : 80 + 2 * j.val + s.val = 8 * k'.val + c'.val := hq
      omega
    · intro hq
      have hq : 80 + 2 * j.val + s.val = 80 + 2 * j'.val + s'.val := hq
      exact congrArg Sum.inr (Prod.ext (Fin.ext (by show j.val = j'.val; omega)) (Fin.ext (by show s.val = s'.val; omega)))
  disj k w := w.elim0

/-- What a device brings into the region. -/
def Entry (d : Dev nD) : sProp 𝕄 :=
  iprop(∃ K, known m K ∗ HandIn d ∗ (bigSep Finset.univ fun c : Fin 8 => Deal d c) ∗ Locals d
    ∗ xPt d Finset.univ (xv m d) ∗ oPt d Finset.univ (o0 m d) ∗ rPt d Finset.univ (r0 m d))

theorem enter (d : Dev nD) :
    iprop(Pipeline.unscopedRestP Pipeline.Prefetch.none cfg0.spec d (fun b => m ((d : Thread nD τ).loc b)) ∗ levAts L lv
        ∗ Pipeline.launchCred O₀ d ∗ prngReg d (ρ d) ∗ Ready m d)
      ⊢ |={Set.univ}=> iprop(Entry m d ∗ emp) := by
  rw [Pipeline.unscopedRestP_none, unscopedRest0_eq]
  unfold Ready Entry known
  iintro ⟨⟨Hx, Ho, Hr⟩, Hlev, Hc, -, ⟨%K, Hrec, Hp, Ht, Hl⟩⟩
  ihave Hd := (deal_start d) $$ [Hp Ht Hc]
  · isplitl [Hp]; · iexact Hp
    isplitl [Ht] <;> iassumption
  icases Hd with ⟨Hh, Hd⟩
  imodintro
  isplitl
  · iexists K
    isplitl [Hrec Hlev]
    · isplitl [Hrec] <;> iassumption
    isplitl [Hh]; · iexact Hh
    isplitl [Hd]; · iexact Hd
    isplitl [Hl]; · iexact Hl
    isplitl [Hx]; · iexact Hx
    isplitl [Ho]; · iexact Ho
    iexact Hr
  iempintro

theorem begin_body (d : Dev nD) :
    iprop(Entry m d ∗ Pipeline.prefHeld Pipeline.Prefetch.none d (fun _ => fullShare.right) (fun k => k.elim0) ∗ Pipeline.scopedRest cfg0.spec d)
      ⊢ (dats m 0 d).Φ 0 := by
  rw [show (dats m 0 d).Φ 0 = Φ₀ m d from rfl, scopedRest0_eq]
  unfold Entry Φ₀ Start Scratch Locals
  iintro ⟨⟨%K, Hk, Hh, Hd, Hl, Hx, Ho, Hr⟩, -, Ha, Hb, Hs⟩
  iexists K
  isplitl [Hk]; · iexact Hk
  isplitl [Hh]; · iexact Hh
  isplitl [Hd]; · iexact Hd
  isplitl [Hx]; · iexact Hx
  isplitl [Ho]; · iexact Ho
  isplitl [Hr]; · iexact Hr
  isplitl [Ha Hb Hs]
  · isplitl [Ha]; · iexact Ha
    isplitl [Hb]; · iexact Hb
    iexact Hs
  iexact Hl

/-- What a device keeps after the region: its barrier at zero, the argument and the result. -/
def Kept (d : Dev nD) : sProp 𝕄 := iprop(unscopedSems0 d ∗ (xL d ↦{fullShare} xv m d) ∗ (oL d ↦{fullShare} oF m (side d)))

theorem zeros_eq (d : Dev nD) : (bigSep Finset.univ fun c : Fin 8 => (Zeros d c : sProp 𝕄)) = bigSep Finset.univ fun kc : Fin 10 × Fin 8 => zeroAt d kc.1 kc.2 :=
  (over_kinds fun k c => zeroAt d k c).symm

theorem leave (d : Dev nD) :
    (dats m 0 d).Φ (Fin.last cfg0.N) ⊢ iprop(Kept m d ∗ Pipeline.ownSems0 osem d ∗ Pipeline.scopedRest cfg0.spec d) := by
  rw [show (dats m 0 d).Φ (Fin.last cfg0.N) = Φ₁ m d from rfl, scopedRest0_eq, ownSems_eq]
  unfold Φ₁ End Kept Scratch Locals
  rw [unscopedSems_eq, zeros_eq]
  iintro ⟨Hb, Hz, Hx, Ho, ⟨Ha, Hb', Hs⟩, Hl⟩
  isplitl [Hb Hx Ho]
  · isplitl [Hb]; · iexact Hb
    isplitl [Hx]; · iexact Hx
    iexact Ho
  isplitl [Hz Hl]
  · isplitl [Hz]; · iexact Hz
    iexact Hl
  isplitl [Ha]; · iexact Ha
  isplitl [Hb']; · iexact Hb'
  iexact Hs

theorem waits (d : Dev nD) : (levAts L lv : sProp 𝕄) ⊢ Pipeline.cellsWaits cfgs (dats m) () 0 d :=
  Pipeline.cellsWaits_intro cfgs (dats m) () 0 d fun w s t => w.elim0

/-- What is read of a device at the end. -/
def Reads (d : Dev nD) (s : MemSt nD τ sig (Elt F)) : Prop :=
  s.mem (xL d) = xv m d ∧ s.mem (oL d) = oF m (side d) ∧ ∀ sm : SemLoc sig, sm.isScoped .tc = false → s.sem ((d.tc : Thread nD τ), sm) = 0

theorem read_out (d : Dev nD) (s' : Phys nD τ sig (Elt F)) :
    iprop(Kept m d ∗ (emp : sProp 𝕄) ∗ SI s') ⊢ |={Set.univ}=> iprop(⌜Reads m d s'.mem⌝ ∗ SI s') := by
  unfold Kept
  iintro ⟨⟨Hu, Hx, Ho⟩, -, HSI⟩
  icombine HSI Hx gives %hx
  icombine HSI Ho gives %ho
  imod (Pipeline.unscopedSems0_read (X := unscopedSems0 d) (c := d) fupd_intro s') $$ [Hu HSI] with ⟨%hu, HSI⟩
  · isplitl [Hu] <;> iassumption
  imodintro
  isplitr; · ipureintro; exact ⟨Buf.eq_of_forall_mem_univ hx, Buf.eq_of_forall_mem_univ ho, hu⟩
  iexact HSI

/-! ## The run -/

set_option maxRecDepth 100000 in
/-- From any memory with zero counters every weakly fair execution of @main ends; then on each device the argument is what it
    was, the result is the sum on the device's side, and every counter is zero. -/
theorem run_main : θ_run defs (onTc (τ := τ) (main (F := F))) ⟨m, fun _ => 0, ρ⟩
    (fun r => (∀ d : Dev nD, r.2.mem (xL d) = m (xL d) ∧ r.2.mem (oL d) = oF m (side d)) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := body_obligation m) (hne := block_pos0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := Dealt m) (G' := Ready m) (u₀ := u₀)
    (hu₀ := by
      iintro Hu
      ihave H := u₀_split $$ Hu
      icases H with ⟨HP, HX⟩
      imod (deal_out m) $$ HX with HG
      imodintro
      isplitl [HP] <;> iassumption)
    (hglob := set_up m)
    (hA := fun _ w => w.elim0) (hpf := fun _ k => k.elim0)
    (X := Entry m) (Y := Kept m) (Z := fun _ => iprop(emp))
    (hX := enter m ρ) (hin := begin_body m) (hout := leave m)
    (QY := Reads m)
    (hY := read_out m)
    (hQ := fun _ h hs => ⟨fun d => ⟨(h d).2.2.1, (h d).2.2.2.1⟩, sem_eq_zero hs fun d => (h d).2.2.2.2⟩)

end Cert.AllReduce

end
-- ==== Proof.Value.lean ====
/-
The value. Over the extended reals the reference sums its two layers, the result on a side is the sum of the summands of
the two sides, and each device's result is its block of columns of the reference's sum.
-/
module

public import proofs.«01_k».proof.Proof.Contents
public import proofs.«01_k».proof.ReferenceIdeal
public import proofs.«01_k».proof.Proof.Gen.ReferenceIdeal
public import Idealize.ShloMosaic.Lib.Layout
public import Idealize.ShloMosaic.Lib.IdealHost
public import Idealize.ShloMosaic.Lib.Pointwise.Reduce

@[expose] public section

noncomputable section

namespace Cert.AllReduce

open Cert.KernelIdeal Cert.KernelIdeal.Gen
open Idealize.ShloMosaic Idealize.ShloMosaic.TcCoe Idealize.ShloMosaic.ValueIdx

/-- The two layers that the reference sums. -/
abbrev Layers : Shape := ⟨3, ![2, 16384, 2048]⟩
/-- Their sum, whole. -/
abbrev Whole : Shape := ⟨2, ![16384, 2048]⟩

/-- A place of a layer. -/
def layer (z : Fin 2) (a : Fin 16384) (b : Fin 2048) : Layers.Idx := ValueIdx.ix3 z a b

/-- The reference's value of its argument: the sum of the two layers. -/
def total (x : Layers.Idx → Ideal .f32) : Whole.Idx → Ideal .f32 :=
  Host.reduceAdd (F := Ideal) (φ := .f32) x (constant Cert.ReferenceIdeal.S_ .f32 0x00000000#32)
    Cert.ReferenceIdeal.Gen.reducesTo_S2x16384x2048_S16384x2048_d0 Cert.ReferenceIdeal.Gen.h_S_

/-- An element of the sum is the first layer's element plus the second's. -/
theorem total_apply (x : Layers.Idx → Ideal .f32) (j : Whole.Idx) :
    total x j = (x (layer 0 (j 0) (j 1)) : EReal) + x (layer 1 (j 0) (j 1)) := by
  unfold total
  rw [hostReduceAdd_apply, Ideal.hostReduceAdd_r3_a0, Fin.sum_univ_two]
  show Ideal.ofBits .f32 0x00000000#32 + _ = _
  rw [Ideal.ofBits_zero_f32, zero_add]
  exact congrArg₂ (fun u v : EReal => u + v) (congrArg x (ValueIdx.eq_ix3 _)) (congrArg x (ValueIdx.eq_ix3 _))

/-- The layer that a device holds is its side's. -/
theorem layer_of : ∀ d : Dev nD, Layout.meshLin [2, 2, 2] d.val [2] = (side d).val := by decide

variable {m : (ℓ : Loc nD τ sig) → Buf (Elt Ideal) ℓ} {x : Layers.Idx → Ideal .f32}

/-- Where every device's argument is its block of the layers, an element of it is its side's layer's. -/
theorem xAt_layer (hx : ∀ d : Dev nD, m ((d : Thread nD τ).loc main_arg0)
      = Layout.blockN ⟨3, ![1, 16384, 2048]⟩ Layers (Layout.meshBlock [2, 2, 2] ![[2], [], []] d) x)
    (d : Dev nD) (a : Fin 16384) (b : Fin 2048) :
    xAt m d a.val b.val = x (layer (side d) a b) := by
  unfold xAt xv
  rw [hx d, Layout.blockN_apply]
  refine congrArg x (funext fun ax => Fin.ext ?_)
  rw [Layout.TilesN.idx_val]
  fin_cases ax
  · show Layout.meshLin [2, 2, 2] d.val [2] * 1 + 0 = (side d).val
    rw [layer_of]; omega
  · show 0 * 16384 + a.val % 16384 = a.val
    have := a.isLt; omega
  · show 0 * 2048 + b.val % 2048 = b.val
    have := b.isLt; omega

/-- The two sides' layers, either first, make the sum. -/
theorem both_sides (j : Whole.Idx) : ∀ z : Fin 2,
    ((x (layer z (j 0) (j 1)) : EReal) + x (layer (z + 1) (j 0) (j 1))) = total x j
  | 0 => (total_apply x j).symm
  | 1 => (add_comm _ _).trans (total_apply x j).symm

/-- Every device's result is its block of columns of the sum. -/
theorem result_block (hx : ∀ d : Dev nD, m ((d : Thread nD τ).loc main_arg0)
      = Layout.blockN ⟨3, ![1, 16384, 2048]⟩ Layers (Layout.meshBlock [2, 2, 2] ![[2], [], []] d) x) (d : Dev nD) :
    oF m (side d) = Layout.blockN ⟨2, ![16384, 1024]⟩ Whole (Layout.meshBlock [2, 2, 2] ![[], [2]] d) (total x) := by
  funext i
  have h0 : (i 0).val < 16384 := (i 0).isLt
  have h1 : (i 1).val < 1024 := (i 1).isLt
  have hs : (side d).val < 2 := (side d).isLt
  let a : Fin 16384 := ⟨(i 0).val, h0⟩
  let b : Fin 2048 := ⟨1024 * (side d).val + (i 1).val, by omega⟩
  let j : Whole.Idx := ValueIdx.ix2 (n0 := 16384) (n1 := 2048) a b
  rw [Layout.blockN_apply]
  have hj : ∀ t : Layout.TilesN ⟨2, ![16384, 1024]⟩ Whole fun b => Layout.cutSize [2, 2, 2] ((![[], [2]] : Fin 2 → List ℕ) b),
      t.idx (Layout.meshBlock [2, 2, 2] ![[], [2]] d) i = j := fun t => funext fun ax => Fin.ext (by
    rw [Layout.TilesN.idx_val]
    fin_cases ax
    · show 0 * 16384 + (i 0).val = (i 0).val; omega
    · show Layout.meshLin [2, 2, 2] d.val [2] * 1024 + (i 1).val = 1024 * (side d).val + (i 1).val
      rw [layer_of]; omega)
  rw [hj, ← both_sides j (side d)]
  unfold oF oAt
  exact congrArg₂ (fun u v : EReal => u + v)
    ((xAt_layer hx _ a b).trans (by rw [side_devAt])) ((xAt_layer hx _ a b).trans (by rw [side_devAt]))

end Cert.AllReduce

end
-- ==== Proof.lean ====
/-
The five claims: the frames of the kernel as printed, of the kernel over the extended reals and of the reference, the
(empty) list of rewrites, and the value. The run of the kernel is proved once for any float values in Proof/Run.lean, and
the value it leaves is compared with the reference's in Proof/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, leaves its argument and returns every counter to zero, whatever the float values are. -/
theorem frame_of {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run _ _ _).mono (fun _ h => ⟨fun c => (h.1 c).1, h.2⟩) (Cert.AllReduce.run_main m ρ)

/-- The frame of the kernel as printed. -/
theorem frame_kernel : Cert.quiescent_Kernel := fun m ρ _ => frame_of (F := Bits) m ρ

/-- The frame of the kernel over the extended reals. -/
theorem frame_ideal : Cert.quiescent_KernelIdeal := fun m ρ _ => frame_of (F := Ideal) m ρ

/-- The frame of the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device ends with its block of columns of the sum that the reference computes. -/
theorem value : Cert.algebraic_KernelIdeal_ReferenceIdeal := fun m ρ m' ρ' _ hx =>
  ⟨Cert.AllReduce.total (m' (((0 : Dev Cert.ReferenceIdeal.nD).tc : Thread Cert.ReferenceIdeal.nD Cert.ReferenceIdeal.τ).loc Cert.ReferenceIdeal.main_arg0)),
    (θ_run _ _ _).mono (fun _ h c => ⟨(h.1 c).2.trans (Cert.AllReduce.result_block hx c), (h.1 c).1⟩) (Cert.AllReduce.run_main (F := Ideal) m ρ),
    (θ_run _ _ _).mono (fun _ h => h 0) (Cert.ReferenceIdeal.Value.run (F := Ideal) m' ρ')⟩

/-- The five claims. -/
theorem claim : Cert.Claim := ⟨Cert.Kernel.Gen.facts, Cert.KernelIdeal.Gen.facts, Cert.ReferenceIdeal.Gen.facts,
  frame_kernel, frame_ideal, frame_reference, trivial, value⟩

end Cert.Proof

end
